-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S8 : Shape := ⟨1, ![8]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .bf16⟩
  | .local _ .vmem, ⟨3, _⟩ => ⟨S4096x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_8 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1024_i32 : BitVec 32 := 1024#32
  let v11 : BitVec 32 := Scalar.muli v10 c1024_i32
  ![0, 0, v11.toNat]
def k0_off2 (d0 : Dev nD) : Fin 3 → Nat :=
  let c0_i32_11 : BitVec 32 := 0#32
  let c512_i32_14 : BitVec 32 := 512#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1024_i32_10 : BitVec 32 := 1024#32
  let v18 : BitVec 32 := Scalar.muli v17 c1024_i32_10
  ![0, 512, v18.toNat]
def k0_off3 (d0 : Dev nD) : Fin 3 → Nat :=
  let c0_i32_17 : BitVec 32 := 0#32
  let c1024_i32_21 : BitVec 32 := 1024#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let c1024_i32_16 : BitVec 32 := 1024#32
  let v25 : BitVec 32 := Scalar.muli v24 c1024_i32_16
  ![0, 1024, v25.toNat]
def k0_off4 (d0 : Dev nD) : Fin 3 → Nat :=
  let c0_i32_24 : BitVec 32 := 0#32
  let c1536_i32_26 : BitVec 32 := 1536#32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_22 v8
  let c1024_i32_23 : BitVec 32 := 1024#32
  let v32 : BitVec 32 := Scalar.muli v31 c1024_i32_23
  ![0, 1536, v32.toNat]
def k0_off5 (d0 : Dev nD) : Fin 3 → Nat :=
  let c0_i32_29 : BitVec 32 := 0#32
  let c2048_i32_32 : BitVec 32 := 2048#32
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_27 v8
  let c1024_i32_28 : BitVec 32 := 1024#32
  let v39 : BitVec 32 := Scalar.muli v38 c1024_i32_28
  ![0, 2048, v39.toNat]
def k0_off6 (d0 : Dev nD) : Fin 3 → Nat :=
  let c0_i32_35 : BitVec 32 := 0#32
  let c2560_i32_37 : BitVec 32 := 2560#32
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_33 v8
  let c1024_i32_34 : BitVec 32 := 1024#32
  let v46 : BitVec 32 := Scalar.muli v45 c1024_i32_34
  ![0, 2560, v46.toNat]
def k0_off7 (d0 : Dev nD) : Fin 3 → Nat :=
  let c0_i32_40 : BitVec 32 := 0#32
  let c3072_i32_42 : BitVec 32 := 3072#32
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_38 v8
  let c1024_i32_39 : BitVec 32 := 1024#32
  let v53 : BitVec 32 := Scalar.muli v52 c1024_i32_39
  ![0, 3072, v53.toNat]
def k0_off8 (d0 : Dev nD) : Fin 3 → Nat :=
  let c0_i32_45 : BitVec 32 := 0#32
  let c3584_i32_47 : BitVec 32 := 3584#32
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v59 : BitVec 32 := Scalar.subi c1_i32_43 v8
  let c1024_i32_44 : BitVec 32 := 1024#32
  let v60 : BitVec 32 := Scalar.muli v59 c1024_i32_44
  ![0, 3584, v60.toNat]
def k0_off9 (d0 : Dev nD) : Fin 3 → Nat :=
  let c0_i32_49 : BitVec 32 := 0#32
  let c0_i32_53 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_48 : BitVec 32 := 1024#32
  let v66 : BitVec 32 := Scalar.muli v8 c1024_i32_48
  ![0, 0, v66.toNat]
def k0_off10 (d0 : Dev nD) : Fin 3 → Nat :=
  let c0_i32_55 : BitVec 32 := 0#32
  let c512_i32_59 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_54 : BitVec 32 := 1024#32
  let v72 : BitVec 32 := Scalar.muli v8 c1024_i32_54
  ![0, 512, v72.toNat]
def k0_off11 (d0 : Dev nD) : Fin 3 → Nat :=
  let c0_i32_61 : BitVec 32 := 0#32
  let c1024_i32_65 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_60 : BitVec 32 := 1024#32
  let v78 : BitVec 32 := Scalar.muli v8 c1024_i32_60
  ![0, 1024, v78.toNat]
def k0_off12 (d0 : Dev nD) : Fin 3 → Nat :=
  let c0_i32_67 : BitVec 32 := 0#32
  let c1536_i32_71 : BitVec 32 := 1536#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_66 : BitVec 32 := 1024#32
  let v84 : BitVec 32 := Scalar.muli v8 c1024_i32_66
  ![0, 1536, v84.toNat]
def k0_off13 (d0 : Dev nD) : Fin 3 → Nat :=
  let c0_i32_73 : BitVec 32 := 0#32
  let c2048_i32_77 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_72 : BitVec 32 := 1024#32
  let v90 : BitVec 32 := Scalar.muli v8 c1024_i32_72
  ![0, 2048, v90.toNat]
def k0_off14 (d0 : Dev nD) : Fin 3 → Nat :=
  let c0_i32_79 : BitVec 32 := 0#32
  let c2560_i32_83 : BitVec 32 := 2560#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_78 : BitVec 32 := 1024#32
  let v96 : BitVec 32 := Scalar.muli v8 c1024_i32_78
  ![0, 2560, v96.toNat]
def k0_off15 (d0 : Dev nD) : Fin 3 → Nat :=
  let c0_i32_85 : BitVec 32 := 0#32
  let c3072_i32_89 : BitVec 32 := 3072#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_84 : BitVec 32 := 1024#32
  let v102 : BitVec 32 := Scalar.muli v8 c1024_i32_84
  ![0, 3072, v102.toNat]
def k0_off16 (d0 : Dev nD) : Fin 3 → Nat :=
  let c0_i32_91 : BitVec 32 := 0#32
  let c3584_i32_95 : BitVec 32 := 3584#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_90 : BitVec 32 := 1024#32
  let v108 : BitVec 32 := Scalar.muli v8 c1024_i32_90
  ![0, 3584, v108.toNat]
def k0_dev1 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v115 : BitVec 32 := Scalar.muli v2 c4_i32_97
  let v116 : BitVec 32 := Scalar.addi c0_i32_98 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v117 : BitVec 32 := Scalar.muli v5 c2_i32_99
  let v118 : BitVec 32 := Scalar.addi v116 v117
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_100 : BitVec 32 := 1#32
  let v119 : BitVec 32 := Scalar.muli v9 c1_i32_100
  let v120 : BitVec 32 := Scalar.addi v118 v119
  v120.toNat
def k0_dev2 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v131 : BitVec 32 := Scalar.muli v2 c4_i32_112
  let v132 : BitVec 32 := Scalar.addi c0_i32_113 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v133 : BitVec 32 := Scalar.muli v5 c2_i32_114
  let v134 : BitVec 32 := Scalar.addi v132 v133
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_115 : BitVec 32 := 1#32
  let v135 : BitVec 32 := Scalar.muli v9 c1_i32_115
  let v136 : BitVec 32 := Scalar.addi v134 v135
  v136.toNat
def k0_dev3 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v153 : BitVec 32 := Scalar.muli v2 c4_i32_130
  let v154 : BitVec 32 := Scalar.addi c0_i32_131 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v155 : BitVec 32 := Scalar.muli v5 c2_i32_132
  let v156 : BitVec 32 := Scalar.addi v154 v155
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_133 : BitVec 32 := 1#32
  let v157 : BitVec 32 := Scalar.muli v9 c1_i32_133
  let v158 : BitVec 32 := Scalar.addi v156 v157
  v158.toNat
def k0_dev4 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v175 : BitVec 32 := Scalar.muli v2 c4_i32_148
  let v176 : BitVec 32 := Scalar.addi c0_i32_149 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v177 : BitVec 32 := Scalar.muli v5 c2_i32_150
  let v178 : BitVec 32 := Scalar.addi v176 v177
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_151 : BitVec 32 := 1#32
  let v179 : BitVec 32 := Scalar.muli v9 c1_i32_151
  let v180 : BitVec 32 := Scalar.addi v178 v179
  v180.toNat
def k0_dev5 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v197 : BitVec 32 := Scalar.muli v2 c4_i32_166
  let v198 : BitVec 32 := Scalar.addi c0_i32_167 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v199 : BitVec 32 := Scalar.muli v5 c2_i32_168
  let v200 : BitVec 32 := Scalar.addi v198 v199
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_169 : BitVec 32 := 1#32
  let v201 : BitVec 32 := Scalar.muli v9 c1_i32_169
  let v202 : BitVec 32 := Scalar.addi v200 v201
  v202.toNat
def k0_dev6 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v219 : BitVec 32 := Scalar.muli v2 c4_i32_184
  let v220 : BitVec 32 := Scalar.addi c0_i32_185 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v221 : BitVec 32 := Scalar.muli v5 c2_i32_186
  let v222 : BitVec 32 := Scalar.addi v220 v221
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_187 : BitVec 32 := 1#32
  let v223 : BitVec 32 := Scalar.muli v9 c1_i32_187
  let v224 : BitVec 32 := Scalar.addi v222 v223
  v224.toNat
def k0_dev7 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v241 : BitVec 32 := Scalar.muli v2 c4_i32_202
  let v242 : BitVec 32 := Scalar.addi c0_i32_203 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v243 : BitVec 32 := Scalar.muli v5 c2_i32_204
  let v244 : BitVec 32 := Scalar.addi v242 v243
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_205 : BitVec 32 := 1#32
  let v245 : BitVec 32 := Scalar.muli v9 c1_i32_205
  let v246 : BitVec 32 := Scalar.addi v244 v245
  v246.toNat
def k0_dev8 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v263 : BitVec 32 := Scalar.muli v2 c4_i32_220
  let v264 : BitVec 32 := Scalar.addi c0_i32_221 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v265 : BitVec 32 := Scalar.muli v5 c2_i32_222
  let v266 : BitVec 32 := Scalar.addi v264 v265
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v267 : BitVec 32 := Scalar.muli v9 c1_i32_223
  let v268 : BitVec 32 := Scalar.addi v266 v267
  v268.toNat
def k0_dev9 (d0 : Dev nD) : Nat :=
  let c0_i32_239 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_238 : BitVec 32 := 4#32
  let v285 : BitVec 32 := Scalar.muli v2 c4_i32_238
  let v286 : BitVec 32 := Scalar.addi c0_i32_239 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v287 : BitVec 32 := Scalar.muli v5 c2_i32_240
  let v288 : BitVec 32 := Scalar.addi v286 v287
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_241 : BitVec 32 := 1#32
  let v289 : BitVec 32 := Scalar.muli v9 c1_i32_241
  let v290 : BitVec 32 := Scalar.addi v288 v289
  v290.toNat
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
# The kernel's body, chunk by chunk

The kernel moves its arrays in eight chunks of 512 rows. The printed body writes every chunk's operations
out; this file names the pieces of the arrays and the semaphores of chunk `k`, writes the operations of one chunk as
a program in `k`, and proves that the printed body is those programs run for `k = 0, …, 7` (`body_eq`). Everything later
is proved about one chunk at a variable `k`.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Halves

open Cert.KernelIdeal Cert.KernelIdeal.Gen
open Idealize.ShloMosaic Idealize.ShloMosaic.TcCoe
open Idealize.SL Idealize.SL.Sem

variable {F : FTy → Type} [FloatOps F]

/-! ## The other device of the pair -/

/-- The device at the other coordinate of the mesh's last axis: the only one a device exchanges with. -/
def peer (c : Dev nD) : Dev nD :=
  ⟨(4 * (c.val / 4) + 2 * ((c.val / 2) % 2) + 1) - c.val % 2, by rw [← k0_dev1_eq]; exact k0_dev1_lt c⟩

theorem peer_peer (c : Dev nD) : peer (peer c) = c := by revert c; decide
theorem peer_ne (c : Dev nD) : peer c ≠ c := by revert c; decide
theorem peer_mod (c : Dev nD) : (peer c).val % 2 = 1 - c.val % 2 := by revert c; decide

/-! ## The arrays, and chunk `k` of each -/

abbrev xM : Memref sig .tc .hbm S1x4096x2048 .f32 := Memref.whole main_arg0
abbrev oM : Memref sig .tc .hbm S4096x1024 .f32 := Memref.whole main_v1
/-- The running sum. -/
abbrev aM : Memref sig .tc .vmem S4096x1024 .f32 := Memref.whole cc0_scratch0
/-- The half of the input that goes to the peer, before it is narrowed. -/
abbrev gM : Memref sig .tc .vmem S4096x1024 .f32 := Memref.whole cc0_scratch1
/-- That half narrowed: what is sent. -/
abbrev sM : Memref sig .tc .vmem S4096x1024 .bf16 := Memref.whole cc0_scratch2
/-- What arrives from the peer. -/
abbrev rM : Memref sig .tc .vmem S4096x1024 .bf16 := Memref.whole cc0_scratch3

theorem rows_inb (k : Fin 8) : ∀ a, (![512 * k.val, 0] : Fin 2 → Nat) a + S512x1024.size a ≤ S4096x1024.size a := by
  revert k; decide

/-- Rows `512 k, …, 512 k + 511` of a 4096 × 1024 array. -/
abbrev rows (k : Fin 8) : Rect S4096x1024 := Rect.unit (s := S4096x1024) ![512 * k.val, 0] S512x1024.size (rows_inb k)

theorem rows_packed (k : Fin 8) : (rows k).PackedRows (EltTy.packing .bf16) := by revert k; decide
theorem rows_words (k : Fin 8) : (rows k).WholeWords (EltTy.packing .bf16) := .inl (rows_packed k)

/-- Chunk `k` of a 4096 × 1024 array. -/
abbrev chunk {sp : Space} {e : EltTy} (M : Memref sig .tc sp S4096x1024 e) (k : Fin 8) : Memref sig .tc sp S512x1024 e :=
  M.slice (rows k) (fun _ => rfl)

/-- The offset in `x` of chunk `k` of the half that goes to the peer; -/
def awayOff (d : Dev nD) (k : Fin 8) : Fin 3 → Nat :=
  (![k0_off1 d, k0_off2 d, k0_off3 d, k0_off4 d, k0_off5 d, k0_off6 d, k0_off7 d, k0_off8 d] : Fin 8 → Fin 3 → Nat) k
/-- of chunk `k` of the half the device keeps; -/
def keepOff (d : Dev nD) (k : Fin 8) : Fin 3 → Nat :=
  (![k0_off9 d, k0_off10 d, k0_off11 d, k0_off12 d, k0_off13 d, k0_off14 d, k0_off15 d, k0_off16 d] : Fin 8 → Fin 3 → Nat) k
/-- the device chunk `k` is sent to. -/
def sendTo (d : Dev nD) (k : Fin 8) : Dev nD :=
  (![⟨k0_dev2 d, k0_dev2_lt d⟩, ⟨k0_dev3 d, k0_dev3_lt d⟩, ⟨k0_dev4 d, k0_dev4_lt d⟩, ⟨k0_dev5 d, k0_dev5_lt d⟩,
     ⟨k0_dev6 d, k0_dev6_lt d⟩, ⟨k0_dev7 d, k0_dev7_lt d⟩, ⟨k0_dev8 d, k0_dev8_lt d⟩, ⟨k0_dev9 d, k0_dev9_lt d⟩] : Fin 8 → Dev nD) k

theorem awayOff_eq (d : Dev nD) (k : Fin 8) : awayOff d k = ![0, 512 * k.val, 1024 - 1024 * (d.val % 2)] := by
  fin_cases k
  exacts [k0_off1_eq d, k0_off2_eq d, k0_off3_eq d, k0_off4_eq d, k0_off5_eq d, k0_off6_eq d, k0_off7_eq d, k0_off8_eq d]
theorem keepOff_eq (d : Dev nD) (k : Fin 8) : keepOff d k = ![0, 512 * k.val, 1024 * (d.val % 2)] := by
  fin_cases k
  exacts [k0_off9_eq d, k0_off10_eq d, k0_off11_eq d, k0_off12_eq d, k0_off13_eq d, k0_off14_eq d, k0_off15_eq d, k0_off16_eq d]
theorem sendTo_eq (d : Dev nD) (k : Fin 8) : sendTo d k = peer d := by
  fin_cases k
  exacts [Fin.ext (k0_dev2_eq d), Fin.ext (k0_dev3_eq d), Fin.ext (k0_dev4_eq d), Fin.ext (k0_dev5_eq d), Fin.ext (k0_dev6_eq d),
    Fin.ext (k0_dev7_eq d), Fin.ext (k0_dev8_eq d), Fin.ext (k0_dev9_eq d)]
theorem signalTo_eq (d : Dev nD) : (⟨k0_dev1 d, k0_dev1_lt d⟩ : Dev nD) = peer d := Fin.ext (k0_dev1_eq d)

theorem half_inb (k : Fin 8) (n : Fin 2) : ∀ a, (![0, 512 * k.val, 1024 * n.val] : Fin 3 → Nat) a + S1x512x1024.size a ≤ S1x4096x2048.size a := by
  revert k n; decide
theorem keepOff_inb (d : Dev nD) (k : Fin 8) : ∀ a, keepOff d k a + S1x512x1024.size a ≤ S1x4096x2048.size a := by
  rw [keepOff_eq]; exact half_inb k ⟨d.val % 2, Nat.mod_lt _ (by decide)⟩
theorem awayOff_inb (d : Dev nD) (k : Fin 8) : ∀ a, awayOff d k a + S1x512x1024.size a ≤ S1x4096x2048.size a := by
  rw [awayOff_eq, show 1024 - 1024 * (d.val % 2) = 1024 * ((peer d).val % 2) by rw [peer_mod]; omega]; exact half_inb k ⟨(peer d).val % 2, Nat.mod_lt _ (by decide)⟩

/-- Chunk `k` of `x` at an offset, as a 512 × 1024 array. -/
abbrev xChunk (off : Fin 3 → Nat) (h : ∀ a, off a + S1x512x1024.size a ≤ S1x4096x2048.size a) : Memref sig .tc .hbm S512x1024 .f32 :=
  (xM.slice (Rect.unit (s := S1x4096x2048) off S1x512x1024.size h) (fun _ => rfl)).squeeze S512x1024 squeezes_S1x512x1024_S512x1024
abbrev xAway (d : Dev nD) (k : Fin 8) : Memref sig .tc .hbm S512x1024 .f32 := xChunk (awayOff d k) (awayOff_inb d k)
abbrev xKeep (d : Dev nD) (k : Fin 8) : Memref sig .tc .hbm S512x1024 .f32 := xChunk (keepOff d k) (keepOff_inb d k)

/-! ## The semaphores -/

theorem sem_inb (k : Fin 8) : ∀ a, (![k.val] : Fin 1 → Nat) a + S1.size a ≤ S8.size a := by revert k; decide

/-- Semaphore `k` of an array of eight. -/
abbrev semAt (A : DmaSems sig S8) (k : Fin 8) : DmaSem sig := ((A.slice (Rect.unit (s := S8) ![k.val] S1.size (sem_inb k))).squeeze S_ squeezes_S1_S_).sem

/-- The five families of transfers, each with one semaphore per chunk: into the staging array, into the sum, the send end
    and the receive end of the exchange, and out to the result. -/
abbrev famSem : Fin 5 → DmaSems sig S8 := fun | 0 => cc0_scratch4 | 1 => cc0_scratch5 | 2 => cc0_scratch6 | 3 => cc0_scratch7 | 4 => cc0_scratch8
abbrev xferSem (f : Fin 5) (k : Fin 8) : DmaSem sig := semAt (famSem f) k

/-- The runtime's barrier semaphore. -/
abbrev barS : Sem sig := (SemArray.scalar (sig.barrier 0 rfl) : Sems sig S_).sem

/-! ## One chunk's operations -/

section Prog

theorem xChunk_words {off : Fin 3 → Nat} {h} : (xChunk off h).view.WordExact := (View.wordExact_bits rfl).reshape _ _
theorem chunk_words32 {sp : Space} (M : Memref sig .tc sp S4096x1024 .f32) (k : Fin 8) : (chunk M k).view.WordExact := View.wordExact_bits rfl
theorem sM_words (k : Fin 8) : (chunk sM k).view.WordExact := (Memref.isWhole_whole cc0_scratch2).wordExact_slice rfl _ (rows_words k)
theorem rM_words (k : Fin 8) : (chunk rM k).view.WordExact := (Memref.isWhole_whole cc0_scratch3).wordExact_slice rfl _ (rows_words k)

/-- A program of the kernel's body. -/
abbrev Body (F : FTy → Type) [FloatOps F] : Type 1 := Prog (TpuEff nD τ sig (Elt F) Λ₀ .tc) PUnit

/-- What is sent of a chunk: the chunk narrowed. -/
def narrow (v : Vec F S512x1024 .f32) : FVec F S512x1024 .bf16 :=
  shapeCast S512x1024 (truncf .bf16 v bitsLt_bf16_f32) shapeCasts_S512x1024_S512x1024
/-- The device's own chunk plus the received one, widened. -/
def addWide (v : Vec F S512x1024 .f32) (w : Vec F S512x1024 .bf16) : FVec F S512x1024 .f32 := k0_pay10 v w

/-- Start the copy of chunk `k` of the half for the peer. -/
def stageStart (d : Dev nD) (k : Fin 8) (κ : Body F) : Body F :=
  .op (.enqueueDma (xAway d k) (.here (chunk gM k)) (.dma (xferSem 0 k)) xChunk_words (chunk_words32 gM k) ⟨Or.inl rfl, trivial⟩) fun _ => κ

/-- Start the copy of chunk `k` of the half the device keeps. -/
def localStart (d : Dev nD) (k : Fin 8) (κ : Body F) : Body F :=
  .op (.enqueueDma (xKeep d k) (.here (chunk aM k)) (.dma (xferSem 1 k)) xChunk_words (chunk_words32 aM k) ⟨Or.inl rfl, trivial⟩) fun _ => κ

/-- Wait for the staged chunk `k`, narrow it, and send it. -/
def sendChunk (d : Dev nD) (k : Fin 8) (κ : Body F) : Body F :=
  .op (.waitDma2 (xferSem 0 k) (xAway d k) (chunk gM k) xChunk_words (chunk_words32 gM k)) fun _ =>
  .op (.load gM (rows k).toLoadRect (View.loadsAt_vmem h_S512x1024)) fun v =>
  .op (.load sM (rows k).toLoadRect (View.loadsAt_vmem h_S512x1024)) fun _ =>
  .op (.store sM (rows k) (narrow v) Finset.univ
    (View.stores_vmem h_S512x1024 ((Memref.isWhole_whole cc0_scratch2).storeExact_slice rfl _ (rows_packed k)) (fun _ => rfl)) (.inl rfl)) fun _ =>
  .op (.enqueueDma (chunk sM k) (.remote (Dev.tc (sendTo d k)) (chunk rM k) (.dma (xferSem 2 k))) (.dma (xferSem 3 k)) (sM_words k) (rM_words k)
    ⟨⟨rfl, Or.inl rfl⟩, trivial⟩) fun _ => κ

/-- Wait for the kept chunk `k`, for its own sent chunk and for the peer's; add, and start the copy to the result. -/
def recvChunk (d : Dev nD) (k : Fin 8) (κ : Body F) : Body F :=
  .op (.waitDma2 (xferSem 1 k) (xKeep d k) (chunk aM k) xChunk_words (chunk_words32 aM k)) fun _ =>
  .op (.waitDma2 (xferSem 2 k) (chunk rM k) (chunk sM k) (rM_words k) (sM_words k)) fun _ =>
  .op (.waitDma2 (xferSem 3 k) (chunk sM k) (chunk rM k) (sM_words k) (rM_words k)) fun _ =>
  .op (.load aM (rows k).toLoadRect (View.loadsAt_vmem h_S512x1024)) fun v =>
  .op (.load rM (rows k).toLoadRect (View.loadsAt_vmem h_S512x1024)) fun w =>
  .op (.load aM (rows k).toLoadRect (View.loadsAt_vmem h_S512x1024)) fun _ =>
  .op (.store aM (rows k) (addWide v w) Finset.univ (View.stores_vmem_bits_univ h_S512x1024 rfl) (.inl rfl)) fun _ =>
  .op (.enqueueDma (chunk aM k) (.here (chunk oM k)) (.dma (xferSem 4 k)) (chunk_words32 aM k) (chunk_words32 oM k) ⟨Or.inl rfl, trivial⟩) fun _ => κ

/-- Wait for chunk `k` of the result. -/
def outWait (k : Fin 8) (κ : Body F) : Body F :=
  .op (.waitDma2 (xferSem 4 k) (chunk aM k) (chunk oM k) (chunk_words32 aM k) (chunk_words32 oM k)) fun _ => κ

/-- The chunks in the order the kernel takes them. -/
abbrev order : List (Fin 8) := [0, 1, 2, 3, 4, 5, 6, 7]

/-- The whole body. -/
def program : Body F :=
  .op .deviceId fun d =>
  order.foldr (stageStart d) <|
  order.foldr (localStart d) <|
  .op (.semSignal (Dev.tc ⟨k0_dev1 d, k0_dev1_lt d⟩) barS (1#32 : BitVec 32).toInt) fun _ =>
  .op (.semWait barS (1#32 : BitVec 32).toInt) fun _ =>
  order.foldr (sendChunk d) <|
  order.foldr (recvChunk d) <|
  order.foldr outWait (.ret ⟨⟩)

set_option maxRecDepth 65536 in
/-- The printed body is that program. -/
theorem body_eq :
    cc0_body (F := F) xM (Memref.isWhole_whole _) oM (Memref.isWhole_whole _) aM (Memref.isWhole_whole _) gM (Memref.isWhole_whole _)
      sM (Memref.isWhole_whole _) rM (Memref.isWhole_whole _) cc0_scratch4 cc0_scratch5 cc0_scratch6 cc0_scratch7 cc0_scratch8 = program := by
  rw [cc0_body_eq_skeleton]
  rfl

end Prog

end Cert.Halves

end
-- ==== Proof.Contents.lean ====
/-
# What each array holds, and its chunks

Every array of the kernel is described by one function of the whole array: the half of the input a device keeps,
the half it gives away, that half narrowed, what it receives, and the sum. A chunk of an array holds that function on the
chunk's rows. This file gives those functions, says what a chunk of the input reads, and cuts an array held whole into its
eight chunks and back.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Pipeline.Value
public import Idealize.ShloMosaic.Lib.ViewIndex
public import Idealize.ShloMosaic.Lib.Pointwise.Index

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources of the proof: the launch's own, and one copy of the rounds protocol for the kernel's semaphores -/

abbrev UK : Type := URounds (GSem nD τ sig) Unit
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

/-! ## Contents -/

/-- The element of the input that column `i 1` of half `n` (0 left, 1 right) takes, at row `i 0`. -/
def halfIdx (n : Fin 2) (i : S4096x1024.Idx) : S1x4096x2048.Idx :=
  ix3 (0 : Fin 1) (⟨(i 0).val, (i 0).isLt⟩ : Fin 4096)
    (⟨1024 * n.val + (i 1).val, by have h : (i 1).val < 1024 := (i 1).isLt; have := n.isLt; omega⟩ : Fin 2048)

/-- Which half a device keeps. -/
def side (c : Dev nD) : Fin 2 := ⟨c.val % 2, Nat.mod_lt _ (by decide)⟩

section Values

variable (X : Dev nD → Vec F S1x4096x2048 .f32) (c : Dev nD)

/-- The half of its input a device keeps; -/
def keepV : Vec F S4096x1024 .f32 := fun i => X c (halfIdx (side c) i)
/-- the half its peer is to have; -/
def awayV : Vec F S4096x1024 .f32 := fun i => X c (halfIdx (side (peer c)) i)
/-- that half narrowed, as it is sent; -/
def sentV : Vec F S4096x1024 .bf16 := truncf .bf16 (awayV X c) bitsLt_bf16_f32
/-- what comes from the peer; -/
def gotV : Vec F S4096x1024 .bf16 := sentV X (peer c)
/-- and the result. -/
def sumV : Vec F S4096x1024 .f32 := addf (keepV X c) (extf .f32 (gotV X c) bitsLt_bf16_f32)

/-- Chunk `k` of the narrowed half is chunk `k` of the half, narrowed. -/
theorem narrow_read (k : Fin 8) :
    narrow ((chunk gM k).view.read (Elt F) (awayV X c)) = (chunk sM k).view.read (Elt F) (sentV X c) := by
  unfold narrow; rw [shapeCast_self]; rfl

/-- Chunk `k` of the result is the sum of the chunks `k`. -/
theorem addWide_read (k : Fin 8) :
    addWide ((chunk aM k).view.read (Elt F) (keepV X c)) ((chunk rM k).view.read (Elt F) (gotV X c)) = (chunk aM k).view.read (Elt F) (sumV X c) := by
  unfold addWide k0_pay10; simp only []; rw [shapeCast_self]; rfl

/-- A chunk of the input at an offset in half `n`, read, is the chunk of that half. -/
theorem xChunk_read (x : Vec F S1x4096x2048 .f32) (n : Fin 2) (k : Fin 8) {off : Fin 3 → Nat} {h} (ho : off = ![0, 512 * k.val, 1024 * n.val]) :
    (xChunk off h).view.read (Elt F) x = (chunk gM k).view.read (Elt F) (fun i => x (halfIdx n i)) := by
  subst ho
  funext i
  show x _ = x (halfIdx n _)
  refine congrArg x ?_
  show (Rect.unit (s := S1x4096x2048) _ S1x512x1024.size h).emb (Shape.reshapeEquiv _ i) = _
  rw [Shape.reshapeEquiv_cons_one (d := ![512, 1024]) _ i]
  refine Shape.idx3_ext ?_ ?_ ?_
  · rfl
  · show 512 * k.val + 1 * (i 0).val = 512 * k.val + 1 * (i 0).val; rfl
  · show 1024 * n.val + 1 * (i 1).val = 1024 * n.val + (0 + 1 * (i 1).val); omega

theorem xKeep_read (k : Fin 8) : (xKeep c k).view.read (Elt F) (X c) = (chunk aM k).view.read (Elt F) (keepV X c) :=
  xChunk_read (X c) (side c) k (keepOff_eq c k)

theorem xAway_read (k : Fin 8) : (xAway c k).view.read (Elt F) (X c) = (chunk gM k).view.read (Elt F) (awayV X c) :=
  xChunk_read (X c) (side (peer c)) k (by
    rw [awayOff_eq, show 1024 - 1024 * (c.val % 2) = 1024 * ((peer c).val % 2) by rw [peer_mod]; omega]; rfl)

end Values

/-! ## Chunks of an array held whole -/

section Pts

/-- The elements under a view hold `V` once what `V` reads there has been written. -/
theorem pts_write {sp : Space} {s : Shape} {e : EltTy} (v : View sig .tc sp s e) (c : Dev nD) (q : PosShare TreeShare)
    (fd V : v.ty.Contents (Elt F)) (w : s.Idx → Elt F e) (h : v.read (Elt F) V = w) :
    (v.loc (c : Thread nD τ) ↦[v.set]{q} v.write (Elt F) fd w Finset.univ : sProp 𝕄) = (v.loc (c : Thread nD τ) ↦[v.set]{q} V) := by
  refine pointsTo_congr fun i hi => ?_
  obtain ⟨x, -, rfl⟩ := Finset.mem_map.mp hi
  exact View.eq_of_read_eq (by rw [View.read_write_univ, h])

variable {sp : Space} {e : EltTy} (M : Memref sig .tc sp S4096x1024 e)

/-- The elements of chunk `k`. -/
abbrev chunkSet (k : Fin 8) : Finset M.view.ty.Idx := (M.view.slice (rows k)).set

theorem chunk_disj (k k' : Fin 8) (h : k ≠ k') : Disjoint (chunkSet M k) (chunkSet M k') :=
  View.disjoint_slice (Rect.unit_disjoint 0 (by
    have : k.val ≠ k'.val := fun e => h (Fin.ext e)
    show 512 * k.val + 512 ≤ 512 * k'.val ∨ 512 * k'.val + 512 ≤ 512 * k.val
    omega))

theorem chunk_cover (hM : M.view.set = Finset.univ) : Finset.univ.biUnion (chunkSet M) = Finset.univ := by
  refine Finset.eq_univ_of_forall fun i => ?_
  obtain ⟨x, -, rfl⟩ := Finset.mem_map.mp (hM ▸ Finset.mem_univ i : i ∈ M.view.set)
  have h0 : (x 0).val < 4096 := (x 0).isLt
  have h1 : (x 1).val < 1024 := (x 1).isLt
  refine Finset.mem_biUnion.mpr ⟨⟨(x 0).val / 512, by omega⟩, Finset.mem_univ _, ?_⟩
  show _ ∈ (M.view.slice _).set
  rw [View.set_slice]
  refine Finset.mem_map_of_mem _ (Rect.mem_set_unit.mpr fun a => ?_)
  fin_cases a
  · show 512 * ((x 0).val / 512) ≤ (x 0).val ∧ (x 0).val < 512 * ((x 0).val / 512) + 512
    omega
  · show 0 ≤ (x 1).val ∧ (x 1).val < 0 + 1024
    omega

/-- Chunk `k` of an array on device `c`, holding `V` there. -/
abbrev chunkPts (c : Dev nD) (k : Fin 8) (V : M.view.ty.Contents (Elt F)) : sProp 𝕄 :=
  (chunk M k).view.loc (c : Thread nD τ) ↦[(chunk M k).view.set]{fullShare} V

/-- An array held whole is its eight chunks held. -/
theorem chunks_split (hM : M.view.set = Finset.univ) (c : Dev nD) (V : M.view.ty.Contents (Elt F)) :
    (M.view.loc (c : Thread nD τ) ↦{fullShare} V : sProp 𝕄) = bigSep Finset.univ fun k => chunkPts M c k V :=
  Ring.pointsTo_blocks (ℓ := M.view.loc (c : Thread nD τ)) (B := Fin 8) (chunkSet M) (chunk_disj M) (chunk_cover M hM) V

/-- Held at any contents, it is its eight chunks held at any contents. -/
theorem chunks_any (hM : M.view.set = Finset.univ) (c : Dev nD) :
    (iprop(∃ V, M.view.loc (c : Thread nD τ) ↦{fullShare} V) : sProp 𝕄) ⊢ bigSep Finset.univ fun k => iprop(∃ V, chunkPts M c k V) := by
  iintro ⟨%V, H⟩
  ihave H' := (Entails.of_eq (chunks_split M hM c V)) $$ H
  have h (k : Fin 8) : (chunkPts M c k V : sProp 𝕄) ⊢ iprop(∃ V, chunkPts M c k V) := by iintro H; iexists V; iexact H
  have h : bigSep Finset.univ (fun k => (chunkPts M c k V : sProp 𝕄)) ⊢ bigSep Finset.univ fun k => iprop(∃ V, chunkPts M c k V) :=
    bigSep_mono fun k _ => h k
  iapply h; iexact H'

end Pts

end Cert.Halves

end
-- ==== Proof.Schedule.lean ====
/-
# Who pays which semaphore, and with what

Each of the forty transfer semaphores is used once, and so is the barrier semaphore: one round with one duty. This file
says what each duty hands over, what each device owes its peer at launch, and the order of the waits.

* Copying chunk `k` into the staging array or into the sum hands back that chunk filled and the part of the input read.
* The send end of chunk `k` hands back the narrowed chunk; the receive end, paid by the peer, the received chunk.
* Copying out chunk `k` hands back the result's chunk and the sum's chunk.
* The barrier semaphore is paid by the peer, with the peer's whole receive array.
-/
module

public import proofs.«01_k».proof.Proof.Contents

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev cell (c : Dev nD) (sm : SemLoc sig) : GSem nD τ sig := ((c : Thread nD τ), sm)
abbrev barCell (c : Dev nD) : GSem nD τ sig := cell c (.reg barS)
/-- The cell of family `f`, chunk `k`. -/
abbrev xferCell (c : Dev nD) (f : Fin 5) (k : Fin 8) : GSem nD τ sig := cell c (.dma (xferSem f k))

/-- The family and the chunk of a transfer semaphore. -/
def decode (s : DmaSem sig) : Fin 5 × Fin 8 :=
  (⟨s.val / 8, by have h : s.val < 40 := s.isLt; omega⟩, ⟨s.val % 8, Nat.mod_lt _ (by decide)⟩)

theorem decode_xfer (f : Fin 5) (k : Fin 8) : decode (xferSem f k) = (f, k) := by revert f k; decide
theorem xfer_decode (s : DmaSem sig) : xferSem (decode s).1 (decode s).2 = s := by
  have h : ∀ s : Fin 40, (xferSem (decode s).1 (decode s).2 : Fin 40) = s := by decide
  exact h s

/-- The transfer semaphores are the pairs of a family and a chunk. -/
def xferEquiv : Fin 5 × Fin 8 ≃ DmaSem sig := ⟨fun p => xferSem p.1 p.2, decode, fun p => decode_xfer p.1 p.2, xfer_decode⟩

theorem xferSem_inj {f f' : Fin 5} {k k' : Fin 8} (h : xferSem f k = xferSem f' k') : f = f' ∧ k = k' := by
  have := (decode_xfer f k).symm.trans ((congrArg decode h).trans (decode_xfer f' k'))
  exact ⟨congrArg Prod.fst this, congrArg Prod.snd this⟩

/-- What a transfer of family `f` credits. -/
def credit (f : Fin 5) : ℕ := match f with
  | 0 => (chunk gM 0).view.dmaCredit
  | 1 => (chunk aM 0).view.dmaCredit
  | 2 => (chunk sM 0).view.dmaCredit
  | 3 => (chunk rM 0).view.dmaCredit
  | 4 => (chunk oM 0).view.dmaCredit

theorem credit_pos (f : Fin 5) : 0 < credit f := by
  fin_cases f <;> exact View.dmaCredit_pos _ (by decide)

/-! ## Payloads -/

section Pay

variable (X : Dev nD → Vec F S1x4096x2048 .f32)

/-- The share of the input that the copy numbered `n` reads with. -/
abbrev xShare (n : ℕ) : PosShare TreeShare := Transfers.shareTokN fullShare n

/-- A chunk of the input at a share. -/
abbrev xPts (c : Dev nD) (M : Memref sig .tc .hbm S512x1024 .f32) (q : PosShare TreeShare) (V : M.view.ty.Contents (Elt F)) : sProp 𝕄 :=
  M.view.loc (c : Thread nD τ) ↦[M.view.set]{q} V

def xferPay (c : Dev nD) (f : Fin 5) (k : Fin 8) : sProp 𝕄 := match f with
  | 0 => iprop(chunkPts gM c k (awayV X c) ∗ xPts c (xAway c k) (xShare k.val) (X c))
  | 1 => iprop(chunkPts aM c k (keepV X c) ∗ xPts c (xKeep c k) (xShare (8 + k.val)) (X c))
  | 2 => chunkPts sM c k (sentV X c)
  | 3 => chunkPts rM c k (gotV X c)
  | 4 => iprop(chunkPts oM c k (sumV X c) ∗ chunkPts aM c k (sumV X c))

/-- A chunk of a device's receive array, whatever it holds. -/
def landing (c : Dev nD) (k : Fin 8) : sProp 𝕄 := iprop(∃ V, chunkPts rM c k V)

/-- What the peer's signal hands device `c`: the peer's receive array. -/
def barPay (c : Dev nD) : sProp 𝕄 := bigSep Finset.univ fun k : Fin 8 => landing (F := F) (peer c) k

instance xferPay_storable (c : Dev nD) (f : Fin 5) (k : Fin 8) : BI.Storable (upEmb : UEmb _ 𝕄) (xferPay X c f k) := by
  unfold xferPay chunkPts xPts; split <;> infer_instance
instance landing_storable (c : Dev nD) (k : Fin 8) : BI.Storable (upEmb : UEmb _ 𝕄) (landing (F := F) c k) := by
  unfold landing chunkPts; infer_instance
instance barPay_storable (c : Dev nD) : BI.Storable (upEmb : UEmb _ 𝕄) (barPay (F := F) c) := by unfold barPay; infer_instance

/-! ## The schedule -/

/-- One round of one duty at every cell. -/
def sched : Rounds.Schedule (GSem nD τ sig) Unit 𝕄 where
  duties _ r := if r = 0 then {()} else ∅
  unitless _ := False
  amount g _ _ := match g.2 with
    | .reg _ => 1
    | .dma s => credit (decode s).1
  payload g _ _ := match g.2 with
    | .reg _ => barPay g.1.1
    | .dma s => xferPay X g.1.1 (decode s).1 (decode s).2
  amount_pos g _ _ _ := by
    rcases g with ⟨_, _ | s⟩
    · exact Nat.one_pos
    · exact credit_pos _

instance sched_storable (g : GSem nD τ sig) (r : ℕ) (d : Unit) : BI.Storable (upEmb : UEmb _ 𝕄) ((sched X).payload g r d) := by
  rcases g with ⟨t, _ | s⟩
  · show BI.Storable upEmb (barPay t.1); infer_instance
  · show BI.Storable upEmb (xferPay X t.1 (decode s).1 (decode s).2); infer_instance

theorem duties_zero (g : GSem nD τ sig) : (sched X).duties g 0 = {()} := rfl
theorem duties_mem (g : GSem nD τ sig) : () ∈ (sched X).duties g 0 := Finset.mem_singleton_self _
theorem duties_later (g : GSem nD τ sig) : ∀ r, 1 ≤ r → (sched X).duties g r = ∅ := fun r hr => if_neg (by omega)

theorem amount_bar (c : Dev nD) : (sched X).amount (barCell c) 0 () = 1 := rfl
theorem amount_xfer (c : Dev nD) (f : Fin 5) (k : Fin 8) : (sched X).amount (xferCell c f k) 0 () = credit f := by
  show credit (decode (xferSem f k)).1 = _; rw [decode_xfer]
theorem payload_bar (c : Dev nD) : (sched X).payload (barCell c) 0 () = barPay c := rfl
theorem payload_xfer (c : Dev nD) (f : Fin 5) (k : Fin 8) : (sched X).payload (xferCell c f k) 0 () = xferPay X c f k := by
  show xferPay X c (decode (xferSem f k)).1 (decode (xferSem f k)).2 = _; rw [decode_xfer]

theorem expect_eq (g : GSem nD τ sig) : (sched X).expect g 0 = (sched X).amount g 0 () := by
  unfold Schedule.expect Schedule.amountOf; rw [duties_zero, Finset.sum_singleton]
/-- All a cell's round hands over is its one duty's payload. -/
theorem rest_eq (g : GSem nD τ sig) :
    bigSep ((sched X).duties g 0 \ ∅) (fun d => (sched X).payload g 0 d) = (sched X).payload g 0 () := by
  rw [Finset.sdiff_empty, duties_zero, bigSep_singleton]

end Pay

/-! ## What a device owes, and the order of the waits -/

/-- What a device still owes its peer's receive cells when the chunks `l` are not sent yet. -/
def due (c : Dev nD) (l : List (Fin 8)) : CellTallies nD τ sig Unit :=
  (l.map fun k => tallyAt (xferCell (peer c) 3 k) () (credit 3)).sum

theorem due_nil (c : Dev nD) : due c [] = 0 := rfl
theorem due_cons (c : Dev nD) (k : Fin 8) (l : List (Fin 8)) :
    due c (k :: l) = due c l + tallyAt (xferCell (peer c) 3 k) () (credit 3) := by
  unfold due; rw [List.map_cons, List.sum_cons, add_comm]

/-- At launch: every chunk, and one unit of the peer's barrier cell. -/
def owed₀ (c : Dev nD) : CellTallies nD τ sig Unit := due c order + tallyAt (barCell (peer c)) () 1

def L (g : GSem nD τ sig) : Finset Unit := if g.1.2 = .tc then {()} else ∅
/-- Barrier cells come after the rest, receive cells after those. -/
def lv (g : GSem nD τ sig) (_ : Unit) : ℕ := match g.2 with
  | .reg _ => 1
  | .dma s => if (decode s).1 = 3 then 2 else 0

theorem L_of_ne (g : GSem nD τ sig) (h : g.1.2 ≠ .tc) : L g = ∅ := if_neg h
theorem L_tc (c : Dev nD) (sm : SemLoc sig) : L (cell c sm) = {()} := if_pos rfl
theorem lv_bar (c : Dev nD) (u : Unit) : lv (barCell c) u = 1 := rfl
theorem lv_xfer (c : Dev nD) (f : Fin 5) (k : Fin 8) (u : Unit) : lv (xferCell c f k) u = if f = 3 then 2 else 0 := by
  show (if (decode (xferSem f k)).1 = 3 then 2 else 0) = _; rw [decode_xfer]

/-- A device owes nothing but receive cells of its peer. -/
theorem due_pos {c : Dev nD} {l : List (Fin 8)} {g : GSem nD τ sig} {u : Unit} (h : 0 < due c l g u) : ∃ k, g = xferCell (peer c) 3 k := by
  induction l with
  | nil => exact absurd h (Nat.lt_irrefl 0)
  | cons k l ih =>
    rw [due_cons, Pi.add_apply, Finsupp.add_apply, tallyAt_apply] at h
    by_cases hg : g = xferCell (peer c) 3 k ∧ u = ()
    · exact ⟨k, hg.1⟩
    · rw [if_neg hg, Nat.add_zero] at h; exact ih h

theorem cell_tag (c : Dev nD) (sm : SemLoc sig) (u : Unit) : u ∈ L (cell c sm) := by rw [L_tc]; exact Finset.mem_singleton_self _

/-- A wait below level 2 may be made while chunks are due. -/
theorem mayWait_due (c : Dev nD) (sm : SemLoc sig) (l : List (Fin 8)) (h : lv (cell c sm) () ≤ 1) :
    (levAts L lv : sProp 𝕄) ⊢ MayWait (c : Thread nD τ) sm () (due c l) :=
  MayOwe.of_cut (L := L) (lev := lv) 1 (fun p hp => by rw [Finset.mem_singleton.mp hp]; exact cell_tag c sm ())
    (fun g u hg => by obtain ⟨k, rfl⟩ := due_pos hg; exact cell_tag _ _ _)
    (fun p hp => by rw [Finset.mem_singleton.mp hp]; exact h)
    (fun g u hg => by obtain ⟨k, rfl⟩ := due_pos hg; rw [lv_xfer, if_pos rfl]; decide)

end Cert.Halves

end
-- ==== Proof.Chunks.lean ====
/-
# The kernel's steps, one chunk at a time

For each of the five chunk programs: what it needs and what it gives, at a variable chunk. A last lemma runs a chunk
program over a list of chunks.
-/
module

public import proofs.«01_k».proof.Proof.Schedule

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of the body on device `c`. -/
abbrev WP (c : Dev nD) (p : Body F) (Q : PUnit → sProp 𝕄) : sProp 𝕄 :=
  wp frame (wpE (defs₀ (F := F)) 𝒱₀ (c : Thread nD τ) none) Set.univ p Q

/-- A device's debt, whatever it has waited for so far. -/
def owing (c : Dev nD) (O : CellTallies nD τ sig Unit) : sProp 𝕄 := iprop(∃ W, owes (c : Thread nD τ) O W)

section Steps

variable (X : Dev nD → Vec F S1x4096x2048 .f32) (K : Dev nD × SemLoc sig → ℕ)

/-- What every device knows: each cell's invariant, that each cell has reached its round, and the levels. -/
def known : sProp 𝕄 :=
  iprop((bigSep Finset.univ fun ck : Dev nD × SemLoc sig => cellInv ER (sched X) (K ck) (cell ck.1 ck.2))
    ∗ (bigSep Finset.univ fun ck : Dev nD × SemLoc sig => reached ER (cell ck.1 ck.2) 0) ∗ levAts L lv)

instance known_persistent : BI.Persistent (known X K) := by unfold known; infer_instance

theorem known_inv (c : Dev nD) (sm : SemLoc sig) : known X K ⊢ cellInv ER (sched X) (K (c, sm)) (cell c sm) := by
  unfold known
  iintro ⟨H, -, -⟩
  have h : bigSep Finset.univ (fun ck : Dev nD × SemLoc sig => (cellInv ER (sched X) (K ck) (cell ck.1 ck.2) : sProp 𝕄))
      ⊢ cellInv ER (sched X) (K (c, sm)) (cell c sm) := bigSep_elim (Finset.mem_univ (c, sm))
  iapply h; iexact H

theorem known_reached (c : Dev nD) (sm : SemLoc sig) : known X K ⊢ reached ER (cell c sm) 0 := by
  unfold known
  iintro ⟨-, H, -⟩
  have h : bigSep Finset.univ (fun ck : Dev nD × SemLoc sig => (reached ER (cell ck.1 ck.2) 0 : sProp 𝕄)) ⊢ reached ER (cell c sm) 0 :=
    bigSep_elim (Finset.mem_univ (c, sm))
  iapply h; iexact H

theorem known_lev : known X K ⊢ levAts L lv := by
  unfold known
  iintro ⟨-, -, H⟩
  iexact H

/-- A copy within the device, on the semaphore of family `f` and chunk `k`. -/
theorem copy_step (c : Dev nD) (f : Fin 5) (k : Fin 8) {sp sp' : Space} {src : Memref sig .tc sp S512x1024 .f32} {dst : Memref sig .tc sp' S512x1024 .f32}
    {h1 : src.view.WordExact} {h2 : dst.view.WordExact} {h3 : DmaTarget.Typed (nD := nD) (τ := τ) sp (.dma (xferSem f k)) (.here (p := .tc) dst)}
    {q : PosShare TreeShare} {fs : Buf (Elt F) (src.view.loc (c : Thread nD τ))} {fd : Buf (Elt F) (dst.view.loc (c : Thread nD τ))}
    (hN : dst.view.dmaCredit = credit f)
    (hpay : iprop((dst.view.loc (c : Thread nD τ) ↦[dst.view.set]{fullShare} dst.view.write (Elt F) fd (src.view.read (Elt F) fs) Finset.univ)
        ∗ src.view.loc (c : Thread nD τ) ↦[src.view.set]{q} fs) ⊢ xferPay X c f k)
    (κ : Body F) (Q : PUnit → sProp 𝕄) :
    iprop(known X K ∗ (src.view.loc (c : Thread nD τ) ↦[src.view.set]{q} fs) ∗ (dst.view.loc (c : Thread nD τ) ↦[dst.view.set]{fullShare} fd)
        ∗ dutyTok ER (xferCell c f k) 0 ())
      ⊢ iprop((cred (tallyAt (xferCell c f k) () (credit f)) -∗ WP c κ Q)
          -∗ WP c (.op (.enqueueDma src (.here dst) (.dma (xferSem f k)) h1 h2 h3) fun _ => κ) Q) := by
  iintro ⟨#HK, Hs, Hd, Ht⟩ Hk
  iapply (Rounds.wp_copy_pointsTo 𝒱₀ ER (sched X) (c : Thread nD τ) none (src := src) (dst := dst) (sem := .dma (xferSem f k)) (κ := K (c, .dma (xferSem f k))) (r := 0) (d := ())
    (duties_mem X _) () (credit f) hN (amount_xfer X c f k) (by rw [payload_xfer]; exact hpay)) $$ [Hs Hd Ht]
  · isplitr; · iapply (known_inv X K c _); iexact HK
    isplitl [Hs]; · iexact Hs
    isplitl [Hd]; · iexact Hd
    isplitl [Ht]; · iexact Ht
    iapply (known_reached X K c _); iexact HK
  iexact Hk

/-- The wait on the semaphore of family `f` and chunk `k`: it hands over the payload, and the semaphore is at zero for good. -/
theorem wait_step (c : Dev nD) (f : Fin 5) (k : Fin 8) {sp sp' : Space} {e e' : EltTy} {s : Shape} {src : Memref sig .tc sp s e} {dst : Memref sig .tc sp' S512x1024 e'}
    {h1 : src.view.WordExact} {h2 : dst.view.WordExact} (hN : dst.view.dmaCredit = credit f) (l : List (Fin 8)) (hl : f ≠ 3 ∨ l = [])
    (κ : Body F) (Q : PUnit → sProp 𝕄) :
    iprop(known X K ∗ cred (tallyAt (xferCell c f k) () (credit f)) ∗ atPos ER (xferCell c f k) 0 ∅ 0 ∗ owing c (due c l))
      ⊢ iprop(((xferPay X c f k ∗ semVal (xferCell c f k) 0 ∗ owing c (due c l)) -∗ WP c κ Q)
          -∗ WP c (.op (.waitDma2 (xferSem f k) src dst h1 h2) fun _ => κ) Q) := by
  unfold owing
  iintro ⟨#HK, Hc, Hat, ⟨%W, HO⟩⟩ Hk
  have hw : (levAts L lv : sProp 𝕄) ⊢ MayWait (c : Thread nD τ) (.dma (xferSem f k)) () (due c l) := by
    rcases hl with hf | rfl
    · exact mayWait_due c _ l (by rw [lv_xfer, if_neg hf]; decide)
    · rw [due_nil, MayWait_zero]; iintro -; iempintro
  iapply (Rounds.wp_wait_rest_token 𝒱₀ ER (sched X) (c : Thread nD τ) none (κ := K (c, .dma (xferSem f k)))
      (wpE_waitDma2_eq 𝒱₀ (c : Thread nD τ) none Set.univ) (Set.mem_univ _) () (O := due c l) (W := W) (R := 0) (m := 0) (T := ∅)
      (by rw [expect_eq, amount_xfer, Nat.zero_add, hN])) $$ [Hc Hat HO]
  · isplitr; · iapply (known_inv X K c _); iexact HK
    isplitl [Hc]; · rw [hN]; iexact Hc
    isplitl [HO]; · iexact HO
    isplitr; · iapply hw; iapply (known_lev X K); iexact HK
    iexact Hat
  iintro ⟨HO, Hat, -, Hpay⟩
  ihave Hp := (Entails.of_eq ((rest_eq X (xferCell c f k)).trans (payload_xfer X c f k))) $$ Hpay
  imod (Rounds.cell_close ER (sched X) (Set.mem_univ (K (c, .dma (xferSem f k)))) (fun h => h) (R := 0 + 1) (duties_later X (xferCell c f k))) $$ [Hat] with Hz
  · isplitr; · iapply (known_inv X K c _); iexact HK
    iexact Hat
  iapply Hk
  isplitl [Hp]; · iexact Hp
  isplitl [Hz]; · iexact Hz
  iexists _; iexact HO

/-! ## The input, read by sixteen copies at once -/

/-- Device `c`'s input, whole, at the share of copy `n`; -/
def xWhole (c : Dev nD) (n : ℕ) : sProp 𝕄 := xM.view.loc (c : Thread nD τ) ↦{xShare n} X c
/-- what is left of that while the copy reads the chunk at an offset. -/
def xLeft (c : Dev nD) (off : Fin 3 → Nat) (h : ∀ a, off a + S1x512x1024.size a ≤ S1x4096x2048.size a) (n : ℕ) : sProp 𝕄 :=
  xM.view.loc (c : Thread nD τ) ↦[Finset.univ \ (xChunk off h).view.set]{xShare n} X c

theorem xWhole_split (c : Dev nD) (off : Fin 3 → Nat) (h : ∀ a, off a + S1x512x1024.size a ≤ S1x4096x2048.size a) (n : ℕ) :
    xWhole X c n ⊣⊢ iprop(xPts c (xChunk off h) (xShare n) (X c) ∗ xLeft X c off h n) :=
  pointsTo_split_subset (Finset.subset_univ _)

/-! ## The two copies out of the input -/

theorem stage_step (c : Dev nD) (k : Fin 8) (κ : Body F) (Q : PUnit → sProp 𝕄) :
    iprop(known X K ∗ (xWhole X c k.val ∗ (∃ V, chunkPts gM c k V) ∗ dutyTok ER (xferCell c 0 k) 0 ()))
      ⊢ iprop(((cred (tallyAt (xferCell c 0 k) () (credit 0)) ∗ xLeft X c (awayOff c k) (awayOff_inb c k) k.val) -∗ WP c κ Q)
          -∗ WP c (stageStart c k κ) Q) := by
  iintro ⟨#HK, Hx, ⟨%V, Hg⟩, Ht⟩ Hk
  ihave Hx' := (xWhole_split X c (awayOff c k) (awayOff_inb c k) k.val).1 $$ Hx
  icases Hx' with ⟨Hx, Hl⟩
  unfold stageStart
  iapply (copy_step X K c 0 k (src := xAway c k) (dst := chunk gM k) rfl (by
    rw [pts_write (chunk gM k).view c fullShare V (awayV X c) _ (xAway_read X c k).symm]; exact BI.Entails.refl _)) $$ [Hx Hg Ht]
  · isplitr; · iexact HK
    isplitl [Hx]; · iexact Hx
    isplitl [Hg]; · iexact Hg
    iexact Ht
  iintro Hc
  iapply Hk
  isplitl [Hc]; · iexact Hc
  iexact Hl

theorem local_step (c : Dev nD) (k : Fin 8) (κ : Body F) (Q : PUnit → sProp 𝕄) :
    iprop(known X K ∗ (xWhole X c (8 + k.val) ∗ (∃ V, chunkPts aM c k V) ∗ dutyTok ER (xferCell c 1 k) 0 ()))
      ⊢ iprop(((cred (tallyAt (xferCell c 1 k) () (credit 1)) ∗ xLeft X c (keepOff c k) (keepOff_inb c k) (8 + k.val)) -∗ WP c κ Q)
          -∗ WP c (localStart c k κ) Q) := by
  iintro ⟨#HK, Hx, ⟨%V, Ha⟩, Ht⟩ Hk
  ihave Hx' := (xWhole_split X c (keepOff c k) (keepOff_inb c k) (8 + k.val)).1 $$ Hx
  icases Hx' with ⟨Hx, Hl⟩
  unfold localStart
  iapply (copy_step X K c 1 k (src := xKeep c k) (dst := chunk aM k) rfl (by
    rw [pts_write (chunk aM k).view c fullShare V (keepV X c) _ (xKeep_read X c k).symm]; exact BI.Entails.refl _)) $$ [Hx Ha Ht]
  · isplitr; · iexact HK
    isplitl [Hx]; · iexact Hx
    isplitl [Ha]; · iexact Ha
    iexact Ht
  iintro Hc
  iapply Hk
  isplitl [Hc]; · iexact Hc
  iexact Hl

/-! ## Loads and stores of a chunk -/

theorem load_step {e : EltTy} (M : Memref sig .tc .vmem S4096x1024 e) (c : Dev nD) (k : Fin 8) {h : M.view.LoadsAt (rows k).toLoadRect}
    (V : M.view.ty.Contents (Elt F)) (κ : Vec F S512x1024 e → Body F) (Q : PUnit → sProp 𝕄) :
    chunkPts M c k V ⊢ iprop((chunkPts M c k V -∗ WP c (κ ((chunk M k).view.read (Elt F) V)) Q)
        -∗ WP c (.op (.load M (rows k).toLoadRect h) κ) Q) :=
  wp_load_rect 𝒱₀ (c : Thread nD τ) none Set.univ (m := M) (r := rows k) (Finset.Subset.refl _)

theorem store_step {e : EltTy} (M : Memref sig .tc .vmem S4096x1024 e) (c : Dev nD) (k : Fin 8) {w : Vec F S512x1024 e}
    {h : (M.access (rows k)).Stores Finset.univ} {h'} (V V' : M.view.ty.Contents (Elt F)) (hw : (chunk M k).view.read (Elt F) V' = w)
    (κ : Body F) (Q : PUnit → sProp 𝕄) :
    chunkPts M c k V ⊢ iprop((chunkPts M c k V' -∗ WP c κ Q) -∗ WP c (.op (.store M (rows k) w Finset.univ h h') fun _ => κ) Q) := by
  iintro H Hk
  iapply (wp_store 𝒱₀ (c : Thread nD τ) none Set.univ (m := M) (r := rows k) (w := w) (Mk := Finset.univ) (S := (chunk M k).view.set) (f := V)
    (Finset.Subset.refl _)) $$ H
  iintro H
  iapply Hk
  iapply (Entails.of_eq (pts_write (chunk M k).view c fullShare V V' w hw))
  iexact H

/-! ## The exchange of one chunk -/

/-- The transfer of chunk `k` to the peer. -/
theorem transfer_step (c n : Dev nD) (hn : n = peer c) (k : Fin 8) (l : List (Fin 8)) {h1 : (chunk sM k).view.WordExact} {h2 : (chunk rM k).view.WordExact}
    {hsc : (chunk rM k : Memref sig (Dev.tc n : Thread nD τ).2.kind .vmem S512x1024 .bf16).view.ref.isScScratch = false}
    {h3 : DmaTarget.Typed .vmem (.dma (xferSem 3 k)) (.remote (p := .tc) (Dev.tc n : Thread nD τ) (chunk rM k : Memref sig (Dev.tc n : Thread nD τ).2.kind .vmem S512x1024 .bf16) (.dma (xferSem 2 k)) hsc)}
    (κ : Body F) (Q : PUnit → sProp 𝕄) :
    iprop(known X K ∗ chunkPts sM c k (sentV X c) ∗ landing (peer c) k ∗ dutyTok ER (xferCell c 2 k) 0 () ∗ dutyTok ER (xferCell (peer c) 3 k) 0 ()
        ∗ owing c (due c (k :: l)))
      ⊢ iprop(((cred (tallyAt (xferCell c 2 k) () (credit 2)) ∗ owing c (due c l)) -∗ WP c κ Q)
          -∗ WP c (.op (.enqueueDma (chunk sM k) (.remote (Dev.tc n : Thread nD τ) (chunk rM k) (.dma (xferSem 2 k)) hsc) (.dma (xferSem 3 k)) h1 h2 h3) fun _ => κ) Q) := by
  subst hn
  unfold landing owing
  iintro ⟨#HK, Hs, ⟨%fn, Hr⟩, Ht2, Ht3, ⟨%W, HO⟩⟩ Hk
  iapply (Rounds.wp_send_pointsTo 𝒱₀ ER (sched X) (c : Thread nD τ) none (c' := (peer c : Thread nD τ)) (src := chunk sM k) (dst := chunk rM k)
    (κ₁ := K (c, .dma (xferSem 2 k))) (κ₂ := K (peer c, .dma (xferSem 3 k))) (r₁ := 0) (r₂ := 0) (d₁ := ()) (d₂ := ()) (fd := fn)
    (duties_mem X _) (duties_mem X _) () () (credit 2) rfl (amount_xfer X c 2 k) (amount_xfer X (peer c) 3 k) (due c l) (due_cons c k l) (W := W)
    (by rw [payload_xfer]; exact BI.Entails.refl _)
    (by
      rw [payload_xfer]
      refine Entails.of_eq (pts_write (chunk rM k).view (peer c) fullShare fn (gotV X (peer c)) _ ?_)
      unfold gotV; rw [peer_peer]; rfl)) $$ [Hs Hr Ht2 Ht3 HO]
  · isplitr; · iapply (known_inv X K c _); iexact HK
    isplitr; · iapply (known_inv X K (peer c) _); iexact HK
    isplitl [Hs]; · iexact Hs
    isplitl [Hr]; · iexact Hr
    isplitl [HO]; · iexact HO
    isplitl [Ht2]; · iexact Ht2
    isplitr; · iapply (known_reached X K c _); iexact HK
    isplitl [Ht3]; · iexact Ht3
    iapply (known_reached X K (peer c) _); iexact HK
  iintro ⟨Hc, HO⟩
  iapply Hk
  isplitl [Hc]; · iexact Hc
  iexists W; iexact HO

/-- What sending chunk `k` starts from, -/
def sendIn (c : Dev nD) (k : Fin 8) : sProp 𝕄 :=
  iprop((cred (tallyAt (xferCell c 0 k) () (credit 0)) ∗ xLeft X c (awayOff c k) (awayOff_inb c k) k.val) ∗ atPos ER (xferCell c 0 k) 0 ∅ 0
    ∗ (∃ V, chunkPts sM c k V) ∗ landing (peer c) k ∗ dutyTok ER (xferCell c 2 k) 0 () ∗ dutyTok ER (xferCell (peer c) 3 k) 0 ())
/-- and what it leaves. -/
def sendOut (c : Dev nD) (k : Fin 8) : sProp 𝕄 :=
  iprop(xWhole X c k.val ∗ chunkPts gM c k (awayV X c) ∗ semVal (xferCell c 0 k) 0 ∗ cred (tallyAt (xferCell c 2 k) () (credit 2)))

theorem send_step (c : Dev nD) (k : Fin 8) (l : List (Fin 8)) (κ : Body F) (Q : PUnit → sProp 𝕄) :
    iprop(known X K ∗ sendIn X c k ∗ owing c (due c (k :: l)))
      ⊢ iprop(((sendOut X c k ∗ owing c (due c l)) -∗ WP c κ Q) -∗ WP c (sendChunk c k κ) Q) := by
  unfold sendIn sendOut sendChunk
  iintro ⟨#HK, ⟨⟨Hc0, Hl⟩, Hat, ⟨%V, Hs⟩, Hr, Ht2, Ht3⟩, HO⟩ Hk
  iapply (wait_step X K c 0 k (dst := chunk gM k) rfl (k :: l) (.inl (by decide))) $$ [Hc0 Hat HO]
  · isplitr; · iexact HK
    isplitl [Hc0]; · iexact Hc0
    isplitl [Hat]; · iexact Hat
    iexact HO
  unfold xferPay
  iintro ⟨⟨Hg, Hx⟩, Hz, HO⟩
  ihave Hxw := (xWhole_split X c (awayOff c k) (awayOff_inb c k) k.val).2 $$ [Hx Hl]
  · isplitl [Hx] <;> iassumption
  iapply (load_step gM c k (awayV X c)) $$ Hg; iintro Hg
  iapply (load_step sM c k V) $$ Hs; iintro Hs
  iapply (store_step sM c k V (sentV X c) (narrow_read X c k).symm) $$ Hs; iintro Hs
  iapply (transfer_step X K c _ (sendTo_eq c k) k l) $$ [Hs Hr Ht2 Ht3 HO]
  · isplitr; · iexact HK
    isplitl [Hs]; · iexact Hs
    isplitl [Hr]; · iexact Hr
    isplitl [Ht2]; · iexact Ht2
    isplitl [Ht3]; · iexact Ht3
    iexact HO
  iintro ⟨Hc, HO⟩
  iapply Hk
  isplitr [HO]
  · isplitl [Hxw]; · iexact Hxw
    isplitl [Hg]; · iexact Hg
    isplitl [Hz]; · iexact Hz
    iexact Hc
  iexact HO

/-- What receiving chunk `k` starts from, -/
def recvIn (c : Dev nD) (k : Fin 8) : sProp 𝕄 :=
  iprop((cred (tallyAt (xferCell c 1 k) () (credit 1)) ∗ xLeft X c (keepOff c k) (keepOff_inb c k) (8 + k.val))
    ∗ cred (tallyAt (xferCell c 2 k) () (credit 2)) ∗ cred (tallyAt (xferCell c 3 k) () (credit 3))
    ∗ atPos ER (xferCell c 1 k) 0 ∅ 0 ∗ atPos ER (xferCell c 2 k) 0 ∅ 0 ∗ atPos ER (xferCell c 3 k) 0 ∅ 0
    ∗ (∃ V, chunkPts oM c k V) ∗ dutyTok ER (xferCell c 4 k) 0 ())
/-- and what it leaves. -/
def recvOut (c : Dev nD) (k : Fin 8) : sProp 𝕄 :=
  iprop(xWhole X c (8 + k.val) ∗ chunkPts sM c k (sentV X c) ∗ chunkPts rM c k (gotV X c)
    ∗ semVal (xferCell c 1 k) 0 ∗ semVal (xferCell c 2 k) 0 ∗ semVal (xferCell c 3 k) 0 ∗ cred (tallyAt (xferCell c 4 k) () (credit 4)))

theorem recv_step (c : Dev nD) (k : Fin 8) (κ : Body F) (Q : PUnit → sProp 𝕄) :
    iprop(known X K ∗ recvIn X c k ∗ owing c (due c []))
      ⊢ iprop(((recvOut X c k ∗ owing c (due c [])) -∗ WP c κ Q) -∗ WP c (recvChunk c k κ) Q) := by
  unfold recvIn recvOut recvChunk
  iintro ⟨#HK, ⟨⟨Hc1, Hl⟩, Hc2, Hc3, Hat1, Hat2, Hat3, ⟨%V, Ho⟩, Ht⟩, HO⟩ Hk
  iapply (wait_step X K c 1 k (dst := chunk aM k) rfl [] (.inr rfl)) $$ [Hc1 Hat1 HO]
  · isplitr; · iexact HK
    isplitl [Hc1]; · iexact Hc1
    isplitl [Hat1]; · iexact Hat1
    iexact HO
  iintro ⟨Hp1, Hz1, HO⟩
  iapply (wait_step X K c 2 k (dst := chunk sM k) rfl [] (.inr rfl)) $$ [Hc2 Hat2 HO]
  · isplitr; · iexact HK
    isplitl [Hc2]; · iexact Hc2
    isplitl [Hat2]; · iexact Hat2
    iexact HO
  iintro ⟨Hs, Hz2, HO⟩
  iapply (wait_step X K c 3 k (dst := chunk rM k) rfl [] (.inr rfl)) $$ [Hc3 Hat3 HO]
  · isplitr; · iexact HK
    isplitl [Hc3]; · iexact Hc3
    isplitl [Hat3]; · iexact Hat3
    iexact HO
  iintro ⟨Hr, Hz3, HO⟩
  unfold xferPay
  icases Hp1 with ⟨Ha, Hx⟩
  ihave Hxw := (xWhole_split X c (keepOff c k) (keepOff_inb c k) (8 + k.val)).2 $$ [Hx Hl]
  · isplitl [Hx] <;> iassumption
  iapply (load_step aM c k (keepV X c)) $$ Ha; iintro Ha
  iapply (load_step rM c k (gotV X c)) $$ Hr; iintro Hr
  iapply (load_step aM c k (keepV X c)) $$ Ha; iintro Ha
  iapply (store_step aM c k (keepV X c) (sumV X c) (addWide_read X c k).symm) $$ Ha; iintro Ha
  iapply (copy_step X K c 4 k (src := chunk aM k) (dst := chunk oM k) (q := fullShare) (fs := sumV X c) (fd := V) rfl (by
    exact sep_mono_left (Entails.of_eq (pts_write (chunk oM k).view c fullShare V (sumV X c) _ rfl)))) $$ [Ha Ho Ht]
  · isplitr; · iexact HK
    isplitl [Ha]; · iexact Ha
    isplitl [Ho]; · iexact Ho
    iexact Ht
  iintro Hc
  iapply Hk
  isplitr [HO]
  · isplitl [Hxw]; · iexact Hxw
    isplitl [Hs]; · iexact Hs
    isplitl [Hr]; · iexact Hr
    isplitl [Hz1]; · iexact Hz1
    isplitl [Hz2]; · iexact Hz2
    isplitl [Hz3]; · iexact Hz3
    iexact Hc
  iexact HO

theorem out_step (c : Dev nD) (k : Fin 8) (κ : Body F) (Q : PUnit → sProp 𝕄) :
    iprop(known X K ∗ (cred (tallyAt (xferCell c 4 k) () (credit 4)) ∗ atPos ER (xferCell c 4 k) 0 ∅ 0) ∗ owing c (due c []))
      ⊢ iprop((((chunkPts oM c k (sumV X c) ∗ chunkPts aM c k (sumV X c) ∗ semVal (xferCell c 4 k) 0) ∗ owing c (due c [])) -∗ WP c κ Q)
          -∗ WP c (outWait k κ) Q) := by
  unfold outWait
  iintro ⟨#HK, ⟨Hc, Hat⟩, HO⟩ Hk
  iapply (wait_step X K c 4 k (dst := chunk oM k) rfl [] (.inr rfl)) $$ [Hc Hat HO]
  · isplitr; · iexact HK
    isplitl [Hc]; · iexact Hc
    isplitl [Hat]; · iexact Hat
    iexact HO
  unfold xferPay
  iintro ⟨⟨Ho, Ha⟩, Hz, HO⟩
  iapply Hk
  isplitr [HO]
  · isplitl [Ho]; · iexact Ho
    isplitl [Ha]; · iexact Ha
    iexact Hz
  iexact HO

end Steps

/-! ## A chunk program over a list of chunks -/

/-- If each chunk's program turns `P k` into `P' k`, and a state that may depend on the chunks to come along, then the programs in
    a row turn all the `P k` into all the `P' k`. -/
theorem fold_step (c : Dev nD) (C : sProp 𝕄) [BI.Persistent C] (prog : Fin 8 → Body F → Body F) (P P' : Fin 8 → sProp 𝕄) (R : List (Fin 8) → sProp 𝕄)
    (Q : PUnit → sProp 𝕄)
    (h : ∀ k l κ, iprop(C ∗ P k ∗ R (k :: l)) ⊢ iprop(((P' k ∗ R l) -∗ WP c κ Q) -∗ WP c (prog k κ) Q)) (l : List (Fin 8)) (hl : l.Nodup) (κ : Body F) :
    iprop(C ∗ bigSep l.toFinset P ∗ R l) ⊢ iprop(((bigSep l.toFinset P' ∗ R []) -∗ WP c κ Q) -∗ WP c (l.foldr prog κ) Q) := by
  induction l with
  | nil =>
    rw [List.toFinset_nil, BI.bigSep_empty, BI.bigSep_empty]
    iintro ⟨-, -, HR⟩ Hk
    iapply Hk
    isplitr; · iempintro
    iexact HR
  | cons k l ih =>
    have hk : k ∉ l.toFinset := fun hm => (List.nodup_cons.mp hl).1 (List.mem_toFinset.mp hm)
    have hs (Φ : Fin 8 → sProp 𝕄) : bigSep (k :: l).toFinset Φ = iprop(Φ k ∗ bigSep l.toFinset Φ) := by
      rw [List.toFinset_cons]; exact BI.bigSep_insert hk
    rw [hs, hs]
    iintro ⟨#HC, ⟨HP, HPs⟩, HR⟩ Hk
    iapply (h k l (l.foldr prog κ)) $$ [HP HR]
    · isplitr; · iexact HC
      isplitl [HP] <;> iassumption
    iintro ⟨HP', HR⟩
    iapply (ih (List.nodup_cons.mp hl).2) $$ [HPs HR]
    · isplitr; · iexact HC
      isplitl [HPs] <;> iassumption
    iintro ⟨HPs', HR⟩
    iapply Hk
    isplitr [HR]
    · isplitl [HP'] <;> iassumption
    iexact HR

/-- The same over all eight chunks in the kernel's order. -/
theorem fold_order (c : Dev nD) (C : sProp 𝕄) [BI.Persistent C] (prog : Fin 8 → Body F → Body F) (P P' : Fin 8 → sProp 𝕄) (R : List (Fin 8) → sProp 𝕄)
    (Q : PUnit → sProp 𝕄)
    (h : ∀ k l κ, iprop(C ∗ P k ∗ R (k :: l)) ⊢ iprop(((P' k ∗ R l) -∗ WP c κ Q) -∗ WP c (prog k κ) Q)) (κ : Body F) :
    iprop(C ∗ bigSep Finset.univ P ∗ R order) ⊢ iprop(((bigSep Finset.univ P' ∗ R []) -∗ WP c κ Q) -∗ WP c (order.foldr prog κ) Q) := by
  rw [show (Finset.univ : Finset (Fin 8)) = order.toFinset from by decide]
  exact fold_step c C prog P P' R Q h order (by decide) κ

end Cert.Halves

end
-- ==== Proof.Body.lean ====
/-
# The kernel's body on one device

From the launch's resources — the device's arrays, its semaphores' positions, the tokens of the duties it pays and its
debt — the body runs to the end with the input as it was, the sum in the result, every semaphore at zero and no debt.
-/
module

public import proofs.«01_k».proof.Proof.Chunks

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The barrier -/

section Barrier

variable (X : Dev nD → Vec F S1x4096x2048 .f32) (K : Dev nD × SemLoc sig → ℕ)

/-- The signal to the peer: it hands over the device's own receive array. -/
theorem signal_step (c n : Dev nD) (hn : n = peer c) (κ : Body F) (Q : PUnit → sProp 𝕄) :
    iprop(known X K ∗ (bigSep Finset.univ fun k => landing c k) ∗ dutyTok ER (barCell (peer c)) 0 () ∗ owing c (owed₀ c))
      ⊢ iprop((owing c (due c order) -∗ WP c κ Q)
          -∗ WP c (.op (.semSignal (Dev.tc n) barS (1#32 : BitVec 32).toInt) fun _ => κ) Q) := by
  subst hn
  unfold owing
  iintro ⟨#HK, Hr, Ht, ⟨%W, HO⟩⟩ Hk
  iapply (Rounds.wp_signal 𝒱₀ ER (sched X) (c : Thread nD τ) none (dst := (peer c : Thread nD τ)) (κ := K (peer c, .reg barS)) (r := 0)
      (d := ()) (duties_mem X _) ((amount_bar X (peer c)).trans (by decide)) () (due c order) rfl) $$ [Hr Ht HO]
  · isplitr; · iapply (known_inv X K (peer c) _); iexact HK
    isplitl [HO]; · iexact HO
    isplitl [Ht]; · iexact Ht
    isplitl [Hr]
    · rw [payload_bar]; unfold barPay; rw [peer_peer]; iexact Hr
    iapply (known_reached X K (peer c) _); iexact HK
  iintro HO
  iapply Hk
  iexists W; iexact HO

/-- The wait for the peer's signal: the peer's receive array comes with it. -/
theorem barrier_step (c : Dev nD) (κ : Body F) (Q : PUnit → sProp 𝕄) :
    iprop(known X K ∗ cred (tallyAt (barCell c) () 1) ∗ atPos ER (barCell c) 0 ∅ 0 ∗ owing c (due c order))
      ⊢ iprop((((bigSep Finset.univ fun k => landing (peer c) k) ∗ semVal (barCell c) 0 ∗ owing c (due c order)) -∗ WP c κ Q)
          -∗ WP c (.op (.semWait barS (1#32 : BitVec 32).toInt) fun _ => κ) Q) := by
  unfold owing
  iintro ⟨#HK, Hc, Hat, ⟨%W, HO⟩⟩ Hk
  iapply (Rounds.wp_wait_rest_token 𝒱₀ ER (sched X) (c : Thread nD τ) none (κ := K (c, .reg barS))
      (wpE_semWait_eq 𝒱₀ (c : Thread nD τ) none Set.univ) (Set.mem_univ _) () (O := due c order) (W := W) (R := 0) (m := 0) (T := ∅)
      (by rw [expect_eq, amount_bar]; decide)) $$ [Hc Hat HO]
  · isplitr; · iapply (known_inv X K c _); iexact HK
    isplitl [Hc]; · iexact Hc
    isplitl [HO]; · iexact HO
    isplitr; · iapply (mayWait_due c (.reg barS) order (le_of_eq (lv_bar c ()))); iapply (known_lev X K); iexact HK
    iexact Hat
  iintro ⟨HO, Hat, -, Hpay⟩
  ihave Hp := (Entails.of_eq ((rest_eq X (barCell c)).trans (payload_bar X c))) $$ Hpay
  imod (Rounds.cell_close ER (sched X) (Set.mem_univ (K (c, .reg barS))) (fun h => h) (R := 0 + 1) (duties_later X (barCell c))) $$ [Hat] with Hz
  · isplitr; · iapply (known_inv X K c _); iexact HK
    iexact Hat
  iapply Hk
  isplitl [Hp]; · unfold barPay; iexact Hp
  isplitl [Hz]; · iexact Hz
  iexists _; iexact HO

end Barrier

/-! ## The whole body -/

section Whole

variable (X : Dev nD → Vec F S1x4096x2048 .f32) (K : Dev nD × SemLoc sig → ℕ)

/-- The input's share is dealt to the sixteen copies that read it, eight and eight; a rest stays. -/
theorem x_deal (c : Dev nD) :
    (xM.view.loc (c : Thread nD τ) ↦{fullShare} X c : sProp 𝕄)
      ⊣⊢ iprop((xM.view.loc (c : Thread nD τ) ↦{Transfers.shareDrop fullShare 16} X c)
          ∗ (bigSep Finset.univ fun k : Fin 8 => xWhole X c k.val) ∗ bigSep Finset.univ fun k : Fin 8 => xWhole X c (8 + k.val)) := by
  have h : bigSep Finset.univ (fun i : Fin 16 => xWhole X c i.val)
      = iprop((bigSep Finset.univ fun k : Fin 8 => xWhole X c k.val) ∗ bigSep Finset.univ fun k : Fin 8 => xWhole X c (8 + k.val)) := by
    rw [bigSep_univ_equiv (finSumFinEquiv : Fin 8 ⊕ Fin 8 ≃ Fin 16), bigSep_univ_sum]
    rfl
  rw [← h]
  exact ⟨Transfers.pointsTo_toks_split fullShare 16, Transfers.pointsTo_toks_join fullShare 16⟩

/-- Whose cells of family `f` device `c` pays: its own, but the peer's receive cells. -/
def payee (c : Dev nD) (f : Fin 5) : Dev nD := if f = 3 then peer c else c
theorem payee_recv (c : Dev nD) : payee c 3 = peer c := if_pos rfl
theorem payee_own (c : Dev nD) {f : Fin 5} (h : f ≠ 3) : payee c f = c := if_neg h
/-- The token of the duty device `c` pays in family `f`. -/
def payTok (c : Dev nD) (f : Fin 5) (k : Fin 8) : sProp 𝕄 := dutyTok ER (xferCell (payee c f) f k) 0 ()

/-- What the protocol gives a device to start with. -/
def ghost (c : Dev nD) : sProp 𝕄 :=
  iprop(known X K ∗ atPos ER (barCell c) 0 ∅ 0 ∗ dutyTok ER (barCell (peer c)) 0 ()
    ∗ (bigSep Finset.univ fun f : Fin 5 => bigSep Finset.univ fun k : Fin 8 => atPos ER (xferCell c f k) 0 ∅ 0)
    ∗ bigSep Finset.univ fun f : Fin 5 => bigSep Finset.univ fun k : Fin 8 => payTok c f k)

/-- What others owe a device at launch. -/
def credits (c : Dev nD) : sProp 𝕄 :=
  iprop(cred (tallyAt (barCell c) () 1) ∗ bigSep Finset.univ fun k : Fin 8 => cred (tallyAt (xferCell c 3 k) () (credit 3)))

/-- An array of a device, whatever it holds. -/
abbrev anyPts {sp : Space} {s : Shape} {e : EltTy} (M : Memref sig .tc sp s e) (c : Dev nD) : sProp 𝕄 := iprop(∃ V, M.view.loc (c : Thread nD τ) ↦{fullShare} V)

/-- The arrays and semaphores when the body is done. -/
def done (c : Dev nD) : sProp 𝕄 :=
  iprop((xM.view.loc (c : Thread nD τ) ↦{fullShare} X c) ∗ (oM.view.loc (c : Thread nD τ) ↦{fullShare} sumV X c)
    ∗ anyPts aM c ∗ anyPts gM c ∗ anyPts sM c ∗ anyPts rM c
    ∗ semVal (barCell c) 0 ∗ bigSep Finset.univ fun f : Fin 5 => bigSep Finset.univ fun k : Fin 8 => semVal (xferCell c f k) 0)

/-- Eight chunks at the contents of one function are the array at it. -/
theorem chunks_any' {sp : Space} {e : EltTy} (M : Memref sig .tc sp S4096x1024 e) (hM : M.view.set = Finset.univ) (c : Dev nD) (V : M.view.ty.Contents (Elt F)) :
    bigSep Finset.univ (fun k => chunkPts M c k V) ⊢ (anyPts M c : sProp 𝕄) := by
  rw [← chunks_split M hM c V]; iintro H; iexists V; iexact H

/-- A family of assertions, one per chunk. -/
abbrev each (Φ : Fin 8 → sProp 𝕄) : sProp 𝕄 := bigSep Finset.univ Φ

theorem sendIn_all (c : Dev nD) : each (sendIn X c)
    = iprop((each fun k => iprop(cred (tallyAt (xferCell c 0 k) () (credit 0)) ∗ xLeft X c (awayOff c k) (awayOff_inb c k) k.val))
      ∗ (each fun k => atPos ER (xferCell c 0 k) 0 ∅ 0) ∗ (each fun k => iprop(∃ V, chunkPts sM c k V)) ∗ (each fun k => landing (peer c) k)
      ∗ (each fun k => dutyTok ER (xferCell c 2 k) 0 ()) ∗ each fun k => dutyTok ER (xferCell (peer c) 3 k) 0 ()) := by
  unfold sendIn; simp only [each, bigSep_sep']

theorem sendOut_all (c : Dev nD) : each (sendOut X c)
    = iprop((each fun k => xWhole X c k.val) ∗ (each fun k => chunkPts gM c k (awayV X c)) ∗ (each fun k => semVal (xferCell c 0 k) 0)
      ∗ each fun k => cred (tallyAt (xferCell c 2 k) () (credit 2))) := by
  unfold sendOut; simp only [each, bigSep_sep']

theorem recvIn_all (c : Dev nD) : each (recvIn X c)
    = iprop((each fun k => iprop(cred (tallyAt (xferCell c 1 k) () (credit 1)) ∗ xLeft X c (keepOff c k) (keepOff_inb c k) (8 + k.val)))
      ∗ (each fun k => cred (tallyAt (xferCell c 2 k) () (credit 2))) ∗ (each fun k => cred (tallyAt (xferCell c 3 k) () (credit 3)))
      ∗ (each fun k => atPos ER (xferCell c 1 k) 0 ∅ 0) ∗ (each fun k => atPos ER (xferCell c 2 k) 0 ∅ 0) ∗ (each fun k => atPos ER (xferCell c 3 k) 0 ∅ 0)
      ∗ (each fun k => iprop(∃ V, chunkPts oM c k V)) ∗ each fun k => dutyTok ER (xferCell c 4 k) 0 ()) := by
  unfold recvIn; simp only [each, bigSep_sep']

theorem recvOut_all (c : Dev nD) : each (recvOut X c)
    = iprop((each fun k => xWhole X c (8 + k.val)) ∗ (each fun k => chunkPts sM c k (sentV X c)) ∗ (each fun k => chunkPts rM c k (gotV X c))
      ∗ (each fun k => semVal (xferCell c 1 k) 0) ∗ (each fun k => semVal (xferCell c 2 k) 0) ∗ (each fun k => semVal (xferCell c 3 k) 0)
      ∗ each fun k => cred (tallyAt (xferCell c 4 k) () (credit 4))) := by
  unfold recvOut; simp only [each, bigSep_sep']

theorem outs_all (c : Dev nD) : (each fun k => iprop(chunkPts oM c k (sumV X c) ∗ chunkPts aM c k (sumV X c) ∗ semVal (xferCell c 4 k) 0))
    = iprop((each fun k => chunkPts oM c k (sumV X c)) ∗ (each fun k => chunkPts aM c k (sumV X c)) ∗ each fun k => semVal (xferCell c 4 k) 0) := by
  simp only [each, bigSep_sep']

/-- Two assertions for every chunk. -/
theorem all_sep (Φ Ψ : Fin 8 → sProp 𝕄) : iprop(each Φ ∗ each Ψ) = each fun k => iprop(Φ k ∗ Ψ k) := (bigSep_sep' _ _ _).symm

theorem ret_step (c : Dev nD) (Q : PUnit → sProp 𝕄) : Q ⟨⟩ ⊢ WP c (.ret ⟨⟩) Q := by
  unfold WP; rw [wp_ret]; iintro H; imodintro; iexact H

theorem body_sound (c : Dev nD) (Q : PUnit → sProp 𝕄) :
    iprop((ghost X K c ∗ credits c ∗ (xM.view.loc (c : Thread nD τ) ↦{fullShare} X c) ∗ anyPts oM c ∗ anyPts aM c ∗ anyPts gM c ∗ anyPts sM c ∗ anyPts rM c
          ∗ owing c (owed₀ c)) ∗ ((done X c ∗ owing c 0) -∗ Q ⟨⟩))
      ⊢ WP c program Q := by
  unfold ghost credits program
  simp only [wp_deviceId]
  rw [bigSep_fin5, bigSep_fin5]
  unfold payTok
  rw [payee_recv, payee_own c (f := 0) (by decide), payee_own c (f := 1) (by decide), payee_own c (f := 2) (by decide), payee_own c (f := 4) (by decide)]
  iintro ⟨⟨⟨#HK, HatB, HtB, ⟨Ha0, Ha1, Ha2, Ha3, Ha4⟩, Ht0, Ht1, Ht2, Ht3, Ht4⟩, ⟨HcB, Hc3⟩, Hx, Ho, Ha, Hg, Hs, Hr, HO⟩, Hk⟩
  ihave Hx' := (x_deal X c).1 $$ Hx
  icases Hx' with ⟨Hxd, Hx0, Hx1⟩
  ihave Ho := (chunks_any oM (View.set_whole _) c) $$ Ho
  ihave Ha := (chunks_any aM (View.set_whole _) c) $$ Ha
  ihave Hg := (chunks_any gM (View.set_whole _) c) $$ Hg
  ihave Hs := (chunks_any sM (View.set_whole _) c) $$ Hs
  ihave Hr := (chunks_any rM (View.set_whole _) c) $$ Hr
  -- start the copies into the staging array
  iapply (fold_order c (known X K) (stageStart c) _ _ (fun _ => iprop(emp)) Q (fun k l κ => by
    iintro ⟨#HK, HP, -⟩ Hk
    iapply (stage_step X K c k κ Q) $$ [HP]
    · isplitr; · iexact HK
      iexact HP
    iintro H
    iapply Hk
    isplitl [H]; · iexact H
    iempintro)) $$ [Hx0 Hg Ht0]
  · isplitr; · iexact HK
    isplitl
    · simp only [bigSep_sep']
      isplitl [Hx0]; · iexact Hx0
      isplitl [Hg] <;> iassumption
    iempintro
  iintro ⟨Hstage, -⟩
  -- and into the sum
  iapply (fold_order c (known X K) (localStart c) _ _ (fun _ => iprop(emp)) Q (fun k l κ => by
    iintro ⟨#HK, HP, -⟩ Hk
    iapply (local_step X K c k κ Q) $$ [HP]
    · isplitr; · iexact HK
      iexact HP
    iintro H
    iapply Hk
    isplitl [H]; · iexact H
    iempintro)) $$ [Hx1 Ha Ht1]
  · isplitr; · iexact HK
    isplitl
    · simp only [bigSep_sep']
      isplitl [Hx1]; · iexact Hx1
      isplitl [Ha] <;> iassumption
    iempintro
  iintro ⟨Hlocal, -⟩
  -- the barrier
  iapply (signal_step X K c _ (signalTo_eq c)) $$ [Hr HtB HO]
  · isplitr; · iexact HK
    isplitl [Hr]; · iexact Hr
    isplitl [HtB] <;> iassumption
  iintro HO
  iapply (barrier_step X K c) $$ [HcB HatB HO]
  · isplitr; · iexact HK
    isplitl [HcB]; · iexact HcB
    isplitl [HatB] <;> iassumption
  iintro ⟨Hr, HzB, HO⟩
  -- send every chunk
  iapply (fold_order c (known X K) (sendChunk c) (sendIn X c) (sendOut X c) (fun l => owing c (due c l)) Q (fun k l κ => send_step X K c k l κ Q))
    $$ [Hstage Ha0 Hs Hr Ht2 Ht3 HO]
  · isplitr; · iexact HK
    isplitr [HO]
    · iapply (Entails.of_eq (sendIn_all X c).symm)
      isplitl [Hstage]; · iexact Hstage
      isplitl [Ha0]; · iexact Ha0
      isplitl [Hs]; · iexact Hs
      isplitl [Hr]; · iexact Hr
      isplitl [Ht2] <;> iassumption
    iexact HO
  iintro ⟨Hsend, HO⟩
  ihave Hsend := (Entails.of_eq (sendOut_all X c)) $$ Hsend
  icases Hsend with ⟨Hx0, Hg, Hz0, Hc2⟩
  -- receive and add every chunk
  iapply (fold_order c (known X K) (recvChunk c) (recvIn X c) (recvOut X c) (fun l => owing c (due c [])) Q (fun k l κ => recv_step X K c k κ Q))
    $$ [Hlocal Hc2 Hc3 Ha1 Ha2 Ha3 Ho Ht4 HO]
  · isplitr; · iexact HK
    isplitr [HO]
    · iapply (Entails.of_eq (recvIn_all X c).symm)
      isplitl [Hlocal]; · iexact Hlocal
      isplitl [Hc2]; · iexact Hc2
      isplitl [Hc3]; · iexact Hc3
      isplitl [Ha1]; · iexact Ha1
      isplitl [Ha2]; · iexact Ha2
      isplitl [Ha3]; · iexact Ha3
      isplitl [Ho] <;> iassumption
    iexact HO
  iintro ⟨Hrecv, HO⟩
  ihave Hrecv := (Entails.of_eq (recvOut_all X c)) $$ Hrecv
  icases Hrecv with ⟨Hx1, Hs, Hr, Hz1, Hz2, Hz3, Hc4⟩
  -- wait for the result
  iapply (fold_order c (known X K) outWait _ _ (fun l => owing c (due c [])) Q (fun k l κ => out_step X K c k κ Q)) $$ [Hc4 Ha4 HO]
  · isplitr; · iexact HK
    isplitr [HO]
    · iapply (Entails.of_eq (all_sep _ _))
      isplitl [Hc4] <;> iassumption
    iexact HO
  iintro ⟨Hout, HO⟩
  ihave Hout := (Entails.of_eq (outs_all X c)) $$ Hout
  icases Hout with ⟨Ho, Ha, Hz4⟩
  iapply (ret_step c)
  iapply Hk
  isplitr [HO]
  · unfold done
    isplitl [Hxd Hx0 Hx1]
    · iapply (x_deal X c).2
      isplitl [Hxd]; · iexact Hxd
      isplitl [Hx0] <;> iassumption
    isplitl [Ho]; · rw [chunks_split oM (View.set_whole _) c]; iexact Ho
    isplitl [Ha]; · iapply (chunks_any' aM (View.set_whole _) c); iexact Ha
    isplitl [Hg]; · iapply (chunks_any' gM (View.set_whole _) c); iexact Hg
    isplitl [Hs]; · iapply (chunks_any' sM (View.set_whole _) c); iexact Hs
    isplitl [Hr]; · iapply (chunks_any' rM (View.set_whole _) c); iexact Hr
    isplitl [HzB]; · iexact HzB
    rw [bigSep_fin5]
    isplitl [Hz0]; · iexact Hz0
    isplitl [Hz1]; · iexact Hz1
    isplitl [Hz2]; · iexact Hz2
    isplitl [Hz3] <;> iassumption
  · rw [due_nil]; iexact HO

end Whole

end Cert.Halves

end
-- ==== Proof.Deal.lean ====
/-
# Dealing out the launch's resources

At launch every cell gets its round, its position and its one duty token. This file deals them to the devices: a device
keeps the positions of its own cells and gets the tokens of the duties it pays, which are its own cells' except that the
receive cells and the barrier cell are its peer's. It also works out what a device is owed at launch.
-/
module

public import proofs.«01_k».proof.Proof.Body
public import Idealize.ShloMosaic.Lib.Pipeline.CollectiveSegs
public import Idealize.ShloMosaic.Lib.Quiescent

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## All semaphores of a device -/

theorem dma_injective : Function.Injective (SemLoc.dma : DmaSem sig → SemLoc sig) := fun _ _ h => SemLoc.dma.inj h

/-- The semaphores that are not the barrier are the forty of the transfers. -/
theorem erase_bar : (Finset.univ : Finset (SemLoc sig)).erase (.reg barS)
    = (Finset.univ : Finset (DmaSem sig)).map ⟨SemLoc.dma, dma_injective⟩ := by
  have h1 : ∀ a : Fin 1, (a : Sem sig) = barS := by decide
  ext sm
  rw [Finset.mem_erase, Finset.mem_map]
  rcases sm with a | s
  · exact ⟨fun h => absurd (congrArg SemLoc.reg (h1 a)) h.1, fun h => by obtain ⟨s, _, h⟩ := h; cases h⟩
  · exact ⟨fun _ => ⟨s, Finset.mem_univ _, rfl⟩, fun _ => ⟨fun h => by (cases h), Finset.mem_univ _⟩⟩

/-- A conjunction over a device's semaphores: the barrier, and each family's eight. -/
theorem bigSep_sems (Φ : SemLoc sig → sProp 𝕄) : bigSep Finset.univ Φ
    = iprop(Φ (.reg barS) ∗ bigSep Finset.univ fun f : Fin 5 => bigSep Finset.univ fun k : Fin 8 => Φ (.dma (xferSem f k))) := by
  have h : bigSep ((Finset.univ : Finset (DmaSem sig)).map ⟨SemLoc.dma, dma_injective⟩) Φ
      = bigSep Finset.univ fun f : Fin 5 => bigSep Finset.univ fun k : Fin 8 => Φ (.dma (xferSem f k)) :=
    (bigSep_map _).trans ((bigSep_univ_equiv xferEquiv (fun s : DmaSem sig => Φ (.dma s))).trans (bigSep_univ_prod _))
  rw [bigSep_univ_at Φ (.reg barS), erase_bar, h]

/-- The kernel's own semaphores: family and chunk. -/
def ownSem (p : Fin 5 × Fin 8) : SemLoc sig := .dma (xferSem p.1 p.2)

theorem ownSems_eq (c : Dev nD) :
    (Pipeline.ownSems0 (Ix := Unit) (Name := ℕ) (U := UU) (Lvl := ℕ) (Val := Elt F) (τ := τ) ownSem c : sProp 𝕄)
      = bigSep Finset.univ fun f : Fin 5 => bigSep Finset.univ fun k : Fin 8 => semVal (xferCell c f k) 0 := by
  unfold Pipeline.ownSems0; rw [bigSep_univ_prod]; rfl

theorem unscopedSems_eq (c : Dev nD) : (unscopedSems0 c : sProp 𝕄) = semVal (barCell c) 0 := by
  unfold unscopedSems0; rw [bigSep_eq_bigSepL_of_eq [SemLoc.reg barS] (by decide) (by decide)]; rfl

/-! ## Cells and tokens -/

theorem cell_injective : Function.Injective (fun ck : Dev nD × SemLoc sig => cell ck.1 ck.2) := by
  rintro ⟨c, sm⟩ ⟨c', sm'⟩ h
  have h1 : c = c' := congrArg (fun g : GSem nD τ sig => g.1.1) h
  have h2 : sm = sm' := congrArg (fun g : GSem nD τ sig => g.2) h
  rw [h1, h2]

theorem token_injective : Function.Injective (fun ck : Dev nD × SemLoc sig => ((cell ck.1 ck.2, 0, ()) : GSem nD τ sig × ℕ × Unit)) :=
  fun _ _ h => cell_injective (congrArg Prod.fst h)

/-- Every semaphore of every device. -/
def allCells : Finset (GSem nD τ sig) := Finset.univ.map ⟨_, cell_injective⟩
/-- Each cell's one duty. -/
def allToks : Finset (GSem nD τ sig × ℕ × Unit) := Finset.univ.map ⟨_, token_injective⟩

section Deal

variable (X : Dev nD → Vec F S1x4096x2048 .f32)

/-- The duty tokens of a device's own cells. -/
def mint (c : Dev nD) : sProp 𝕄 := bigSep Finset.univ fun sm : SemLoc sig => dutyTok ER (cell c sm) 0 ()

/-- The positions of a device's own cells, each at its round. -/
def seats (c : Dev nD) : sProp 𝕄 :=
  bigSep Finset.univ fun sm : SemLoc sig => iprop(atPos ER (cell c sm) 0 ∅ 0 ∗ reached ER (cell c sm) 0)

/-- What the launch deals a device. -/
def dealt (c : Dev nD) : sProp 𝕄 :=
  iprop((bigSep Finset.univ fun sm : SemLoc sig => roundState ER (sched X) (cell c sm) 0) ∗ seats c ∗ mint c)

theorem fund_cells : BI.own (ER (initOf allCells allToks)) ⊢ (|==> bigSep Finset.univ (dealt X) : sProp 𝕄) := by
  have hX (Φ : GSem nD τ sig → sProp 𝕄) : bigSep allCells Φ = bigSep Finset.univ fun c : Dev nD => bigSep Finset.univ fun sm : SemLoc sig => Φ (cell c sm) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]; rfl
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt seats; simp only [bigSep_sep']
  isplitl [Hst']; · iexact Hst'
  isplitl [Hat' Hr']
  · isplitl [Hat'] <;> iassumption
  iexact Htok'

theorem sems_eq (c : Dev nD) :
    iprop(Pipeline.ownSems0 (Ix := Unit) (Name := ℕ) (U := UU) (Lvl := ℕ) (Val := Elt F) (τ := τ) ownSem c ∗ unscopedSems0 c)
      ⊢ (bigSep Finset.univ fun sm : SemLoc sig => semVal (cell c sm) 0 : sProp 𝕄) := by
  rw [ownSems_eq, unscopedSems_eq, bigSep_sems]
  iintro ⟨HS, HB⟩
  isplitl [HB] <;> iassumption

/-- One device's cells get their invariants. -/
theorem open_cells (c : Dev nD) :
    iprop(Pipeline.ownSems0 (Ix := Unit) (Name := ℕ) (U := UU) (Lvl := ℕ) (Val := Elt F) (τ := τ) ownSem c ∗ unscopedSems0 c ∗ dealt X c)
      ⊢ |={Set.univ}=> iprop((bigSep Finset.univ fun sm : SemLoc sig => iprop(∃ κ : ℕ, cellInv ER (sched X) κ (cell c sm))) ∗ seats c ∗ mint c) := by
  unfold dealt
  iintro ⟨Hos, Hus, Hst, Hat, Htok⟩
  ihave Hv := (sems_eq (F := F) c) $$ [Hos Hus]
  · isplitl [Hos] <;> iassumption
  imod (show iprop((bigSep Finset.univ fun sm : SemLoc sig => semVal (cell c sm) 0) ∗ bigSep Finset.univ fun sm : SemLoc sig => roundState ER (sched X) (cell c sm) 0)
      ⊢ (|={Set.univ}=> bigSep Finset.univ fun sm : SemLoc sig => iprop(∃ κ : ℕ, cellInv ER (sched X) κ (cell c sm)) : sProp 𝕄) from by
        rw [← bigSep_sep']
        exact (bigSep_mono fun sm _ => (Rounds.body_intro ER (sched X) (cell c sm)).trans inv_alloc).trans (bigSep_fupd _ _)) $$ [Hv Hst] with Hinv
  · isplitl [Hv] <;> iassumption
  imodintro
  isplitl [Hinv]; · iexact Hinv
  isplitl [Hat]; · iexact Hat
  iexact Htok

/-- The devices, each sent to its peer. -/
def peers : Dev nD ≃ Dev nD := ⟨peer, peer, peer_peer, peer_peer⟩

theorem payee_payee (f : Fin 5) (c : Dev nD) : payee (payee c f) f = c := by
  unfold payee; split
  · exact peer_peer c
  · rfl

/-- The devices, each sent to the one whose family `f` it pays. -/
def payees (f : Fin 5) : Dev nD ≃ Dev nD := ⟨fun c => payee c f, fun c => payee c f, payee_payee f, payee_payee f⟩

/-- The tokens of the duties a device pays. -/
def pays (c : Dev nD) : sProp 𝕄 :=
  iprop(dutyTok ER (barCell (peer c)) 0 () ∗ bigSep Finset.univ fun f : Fin 5 => bigSep Finset.univ fun k : Fin 8 => payTok c f k)

/-- Every token goes to the device that pays its duty. -/
theorem deal_tokens : (bigSep Finset.univ fun c : Dev nD => (mint c : sProp 𝕄)) ⊢ bigSep Finset.univ fun c : Dev nD => pays c := by
  have h1 : (bigSep Finset.univ fun c : Dev nD => (dutyTok ER (barCell c) 0 () : sProp 𝕄))
      = bigSep Finset.univ fun c : Dev nD => dutyTok ER (barCell (peer c)) 0 () := bigSep_univ_equiv peers _
  have h2 : (bigSep Finset.univ fun c : Dev nD => bigSep Finset.univ fun f : Fin 5 => bigSep Finset.univ fun k : Fin 8 => (dutyTok ER (xferCell c f k) 0 () : sProp 𝕄))
      = bigSep Finset.univ fun c : Dev nD => bigSep Finset.univ fun f : Fin 5 => bigSep Finset.univ fun k : Fin 8 => payTok c f k := by
    rw [BI.bigSep_univ_comm, BI.bigSep_univ_comm (fun (c : Dev nD) (f : Fin 5) => bigSep Finset.univ fun k : Fin 8 => (payTok c f k : sProp 𝕄))]
    exact bigSep_congr fun f _ => bigSep_univ_equiv (payees f) (fun c : Dev nD => bigSep Finset.univ fun k : Fin 8 => (dutyTok ER (xferCell c f k) 0 () : sProp 𝕄))
  have h3 : (bigSep Finset.univ fun c : Dev nD => (mint c : sProp 𝕄)) = bigSep Finset.univ fun c : Dev nD => pays c := by
    unfold pays; rw [bigSep_sep', ← h1, ← h2, ← bigSep_sep']
    exact bigSep_congr fun c _ => by unfold mint; rw [bigSep_sems]
  exact Entails.of_eq h3

/-- What every device is told of the cells: the invariants and that each cell has reached its round. -/
def told (K : Dev nD × SemLoc sig → ℕ) : sProp 𝕄 :=
  iprop((bigSep Finset.univ fun ck : Dev nD × SemLoc sig => cellInv ER (sched X) (K ck) (cell ck.1 ck.2))
    ∗ bigSep Finset.univ fun ck : Dev nD × SemLoc sig => reached ER (cell ck.1 ck.2) 0)

instance told_persistent (K : Dev nD × SemLoc sig → ℕ) : BI.Persistent (told X K) := by unfold told; infer_instance

/-- A device's part: the positions of its cells and the tokens it pays with. -/
def part (c : Dev nD) : sProp 𝕄 := iprop((bigSep Finset.univ fun sm : SemLoc sig => atPos ER (cell c sm) 0 ∅ 0) ∗ pays c)

/-- What a device starts with besides its arrays. -/
def hand (c : Dev nD) : sProp 𝕄 := iprop(∃ K, told X K ∗ part c)

/-- A persistent fact goes to every member of a conjunction. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names of the invariants chosen at once, and the tokens dealt. -/
theorem gather : (bigSep Finset.univ fun c : Dev nD =>
      iprop((bigSep Finset.univ fun sm : SemLoc sig => iprop(∃ κ : ℕ, cellInv ER (sched X) κ (cell c sm))) ∗ seats c ∗ mint c) : sProp 𝕄)
      ⊢ bigSep Finset.univ (hand X) := by
  unfold seats
  rw [bigSep_sep', bigSep_sep', ← bigSep_univ_prod (fun ck : Dev nD × SemLoc sig => iprop(∃ κ : ℕ, cellInv ER (sched X) κ (cell ck.1 ck.2))),
    bigSep_congr (s := Finset.univ) (fun (c : Dev nD) _ => bigSep_sep' Finset.univ (fun sm : SemLoc sig => (atPos ER (cell c sm) 0 ∅ 0 : sProp 𝕄)) (fun sm => reached ER (cell c sm) 0)),
    bigSep_sep', ← bigSep_univ_prod (fun ck : Dev nD × SemLoc sig => (reached ER (cell ck.1 ck.2) 0 : sProp 𝕄))]
  iintro ⟨HI, ⟨Hat, #HR⟩, Htok⟩
  ihave HK := (BI.bigSep_exists_pi Finset.univ (fun (ck : Dev nD × SemLoc sig) (κ : ℕ) => (cellInv ER (sched X) κ (cell ck.1 ck.2) : sProp 𝕄))) $$ HI
  icases HK with ⟨%K, #HI⟩
  ihave Htk := (deal_tokens (F := F)) $$ Htok
  iapply (bigSep_along (R := told X K) (Φ := part) (Ψ := hand X) fun c _ => show iprop(told X K ∗ part c) ⊢ hand X c from by
    unfold hand; iintro H; iexists K; iexact H)
  isplitr
  · unfold told; isplitl; · iexact HI
    iexact HR
  · unfold part
    iapply (Entails.of_eq (bigSep_sep' Finset.univ (fun c : Dev nD => bigSep Finset.univ fun sm : SemLoc sig => (atPos ER (cell c sm) 0 ∅ 0 : sProp 𝕄)) pays).symm)
    isplitl [Hat]; · iexact Hat
    iexact Htk

/-- From every device's semaphores and share of the launch to every device's hand. -/
theorem deal : (bigSep Finset.univ fun c =>
      iprop(Pipeline.ownSems0 (Ix := Unit) (Name := ℕ) (U := UU) (Lvl := ℕ) (Val := Elt F) (τ := τ) ownSem c ∗ unscopedSems0 c ∗ dealt X c) : sProp 𝕄)
    ⊢ |={Set.univ}=> bigSep Finset.univ (hand X) :=
  ((bigSep_mono fun c _ => open_cells X c).trans (bigSep_fupd _ _)).trans (BI.fupd_mono (gather X))

/-- A device's hand and the levels are what the protocol starts from. -/
theorem hand_ghost (c : Dev nD) : iprop(hand X c ∗ levAts L lv) ⊢ iprop(∃ K, ghost X K c) := by
  unfold hand told part pays ghost known
  iintro ⟨⟨%K, ⟨⟨HI, HR⟩, Hat, Hbar, Hpay⟩⟩, Hlev⟩
  iexists K
  ihave Hat' := (Entails.of_eq (bigSep_sems fun sm : SemLoc sig => (atPos ER (cell c sm) 0 ∅ 0 : sProp 𝕄))) $$ Hat
  icases Hat' with ⟨HaB, HaX⟩
  isplitl [HI HR Hlev]
  · isplitl [HI]; · iexact HI
    isplitl [HR] <;> iassumption
  isplitl [HaB]; · iexact HaB
  isplitl [Hbar]; · iexact Hbar
  isplitl [HaX] <;> iassumption

end Deal

/-! ## What a device is owed at launch -/

theorem xferCell_eq {a b : Dev nD} {f g : Fin 5} {k j : Fin 8} (h : xferCell a f k = xferCell b g j) : a = b ∧ f = g ∧ k = j :=
  ⟨congrArg (fun g : GSem nD τ sig => g.1.1) h, xferSem_inj (SemLoc.dma.inj (congrArg (fun g : GSem nD τ sig => g.2) h))⟩

theorem bar_ne_xfer (a b : Dev nD) (f : Fin 5) (k : Fin 8) : barCell a ≠ xferCell b f k :=
  fun h => by cases congrArg (fun g : GSem nD τ sig => g.2) h

theorem eq_peer {c d : Dev nD} (h : c = peer d) : d = peer c := by rw [h, peer_peer]

/-- A chunk's receive cell is due once for each time the chunk is to be sent, by the peer alone. -/
theorem due_recv (d c : Dev nD) (l : List (Fin 8)) (k : Fin 8) :
    due d l (xferCell c 3 k) () = if d = peer c then l.count k * credit 3 else 0 := by
  induction l with
  | nil => rw [due_nil, List.count_nil, Nat.zero_mul, ite_self]; rfl
  | cons j l ih =>
    rw [due_cons, Pi.add_apply, Finsupp.add_apply, tallyAt_apply, ih]
    by_cases hd : d = peer c
    · subst hd
      rw [if_pos rfl, if_pos rfl, peer_peer, List.count_cons, Nat.add_mul]
      by_cases hk : j = k
      · subst hk; rw [if_pos ⟨rfl, rfl⟩, if_pos (beq_self_eq_true j), Nat.one_mul]
      · rw [if_neg fun h => hk (xferCell_eq h.1).2.2.symm, if_neg fun h => hk (eq_of_beq h), Nat.zero_mul]
    · rw [if_neg hd, if_neg hd, if_neg fun h => hd (eq_peer (xferCell_eq h.1).1)]

theorem order_count (k : Fin 8) : order.count k = 1 := by revert k; decide

theorem owed_recv (d c : Dev nD) (k : Fin 8) : owed₀ d (xferCell c 3 k) () = if d = peer c then credit 3 else 0 := by
  unfold owed₀
  rw [Pi.add_apply, Finsupp.add_apply, due_recv, tallyAt_apply, order_count, Nat.one_mul,
    if_neg (c := xferCell c 3 k = barCell (peer d) ∧ () = ()) (fun h => bar_ne_xfer _ _ _ _ h.1.symm), Nat.add_zero]

theorem owed_bar (d c : Dev nD) : owed₀ d (barCell c) () = if d = peer c then 1 else 0 := by
  unfold owed₀
  have h0 : due d order (barCell c) () = 0 := Nat.eq_zero_of_not_pos fun h => by
    obtain ⟨k, hk⟩ := due_pos h; exact bar_ne_xfer _ _ _ _ hk
  rw [Pi.add_apply, Finsupp.add_apply, h0, tallyAt_apply, Nat.zero_add]
  by_cases hd : d = peer c
  · subst hd; rw [peer_peer, if_pos ⟨rfl, rfl⟩, if_pos rfl]
  · rw [if_neg hd, if_neg fun h => hd (eq_peer (congrArg (fun g : GSem nD τ sig => g.1.1) h.1))]

/-- A cell that the peer alone owes `n` is owed `n`. -/
theorem launch_cell (g : GSem nD τ sig) (c : Dev nD) (n : ℕ) (h : ∀ d, owed₀ d g () = if d = peer c then n else 0) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

/-- The launch's credit: a unit of the barrier and every chunk the peer sends. -/
theorem launch_credits (c : Dev nD) : (Pipeline.launchCred owed₀ c : sProp 𝕄) ⊢ credits c := by
  unfold Pipeline.launchCred credits
  rw [bigSep_sems, bigSep_fin5]
  iintro ⟨HB, -, -, -, HR, -⟩
  isplitl [HB]
  · iapply (Entails.of_eq (congrArg (fun T => (cred T : sProp 𝕄)) (launch_cell (barCell c) c 1 fun d => owed_bar d c))); iexact HB
  · iapply (show (bigSep Finset.univ fun k : Fin 8 => (cred (tallyOn (xferCell c 3 k) (launchCredit (Pipeline.owing owed₀) 0 (xferCell c 3 k))) : sProp 𝕄))
        ⊢ bigSep Finset.univ fun k : Fin 8 => cred (tallyAt (xferCell c 3 k) () (credit 3)) from
      bigSep_mono fun k _ => Entails.of_eq (congrArg (fun T => (cred T : sProp 𝕄)) (launch_cell (xferCell c 3 k) c (credit 3) fun d => owed_recv d c k)))
    iexact HR

end Cert.Halves

end
-- ==== Proof.Launch.lean ====
/-
# The launch and the run

What each device holds when its body starts and when it ends, the launch of all devices at once, and the run of the whole
program: every execution ends with the input unchanged, the sum in every device's result and every semaphore at zero.
-/
module

public import proofs.«01_k».proof.Proof.Deal
public import proofs.«01_k».proof.Proof.Gen.KernelIdeal.Points

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The input that device `c` starts with. -/
abbrev inp (c : Dev nD) : Vec F S1x4096x2048 .f32 := m ((c : Thread nD τ).loc main_arg0)

/-- What a device starts with, besides its scratch arrays. -/
def start (c : Dev nD) : sProp 𝕄 :=
  iprop((∃ K, ghost (inp m) K c) ∗ credits c ∗ (xM.view.loc (c : Thread nD τ) ↦{fullShare} inp m c) ∗ anyPts oM c)

/-- Before the body: the start and the scratch arrays, whatever they hold. -/
def before (c : Dev nD) : sProp 𝕄 := iprop(start m c ∗ anyPts aM c ∗ anyPts gM c ∗ anyPts sM c ∗ anyPts rM c)

/-- The region's data: no pipelined window, one point, and the debt of the launch before it. -/
def dats (p : Fin 1) (c : Dev nD) : Dat (τ := τ) (Elt F) Unit ℕ UU ℕ cfg0 c where
  A := fun w => w.elim0
  after := fun w => w.elim0
  Φ := fun t => if t.val = 0 then before m c else done (inp m) c
  q := fun w => w.elim0
  owed := fun t => if t.val = 0 then owed₀ c else 0

theorem fin0_empty (Φ : Fin cfg0.W → sProp 𝕄) : bigSep Finset.univ Φ = iprop(emp) := by
  rw [show (Finset.univ : Finset (Fin cfg0.W)) = ∅ from by decide]; exact bigSep_empty

/-- The debt before the body. -/
theorem debt_before (c : Dev nD) : ((dats m 0 c).owesAt () (t0_0 : Fin cfg0.N).castSucc : sProp 𝕄) ⊢ owing c (owed₀ c) := by
  show iprop(∃ W, ⌜_⌝ ∗ owes (c : Thread nD τ) (owed₀ c) W) ⊢ owing c (owed₀ c)
  unfold owing
  iintro ⟨%W, -, H⟩
  iexists W; iexact H

/-- After the body nothing is owed. -/
theorem debt_after (c : Dev nD) : (owing c 0 : sProp 𝕄) ⊢ (dats m 0 c).owesAt () (t0_0 : Fin cfg0.N).succ := by
  show owing c 0 ⊢ iprop(∃ W, ⌜_⌝ ∗ owes (c : Thread nD τ) 0 W)
  unfold owing
  iintro ⟨%W, H⟩
  iexists W
  isplitr; · ipureintro; exact fun _ _ => Or.inl trivial
  iexact H

/-- The body's program, with its debt and its arrays. -/
theorem body_run (c : Dev nD) :
    iprop(before m c ∗ (dats m 0 c).owesAt () (t0_0 : Fin cfg0.N).castSucc ∗ emp)
      ⊢ WP c program (fun _ => iprop(done (inp m) c ∗ (dats m 0 c).owesAt () (t0_0 : Fin cfg0.N).succ ∗ emp)) := by
  unfold before start
  iintro ⟨⟨⟨⟨%K, Hg⟩, Hc, Hx, Ho⟩, Ha, Hgs, Hs, Hr⟩, Howe, -⟩
  ihave Howe' := (debt_before m c) $$ Howe
  iapply (body_sound (inp m) K c _)
  isplitr []
  · isplitl [Hg]; · iexact Hg
    isplitl [Hc]; · iexact Hc
    isplitl [Hx]; · iexact Hx
    isplitl [Ho]; · iexact Ho
    isplitl [Ha]; · iexact Ha
    isplitl [Hgs]; · iexact Hgs
    isplitl [Hs]; · iexact Hs
    isplitl [Hr]; · iexact Hr
    iexact Howe'
  · iintro ⟨Hd, Howe⟩
    isplitl [Hd]; · iexact Hd
    isplitl [Howe]
    · iapply (debt_after m c); iexact Howe
    · iempintro

set_option maxRecDepth 8000 in
/-- The body's obligation on device `c`. -/
theorem body_holds (c : Dev nD) : BodyObligation (dats m 0 c) (defs₀ (F := F)) 𝒱₀ () Set.univ := fun t => by
  rw [fin_N0 t, fin0_empty, fin0_empty]
  show _ ⊢ wp frame (wpE defs₀ 𝒱₀ c none) Set.univ (bodyAt0 (F := F) t0_0) _
  have h : bodyAt0 (F := F) t0_0 = program := body_eq
  rw [h]
  exact body_run m c

/-! ## The launch -/

theorem ownSem_facts : Pipeline.OwnSemFacts cfg0.spec ownSem := by decide

/-- The launch's resources are the start's. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred owed₀ c ∗ prngReg c (ρ c) ∗ hand (inp m) c)
      ⊢ |={Set.univ}=> iprop(start m c ∗ emp) := by
  rw [Pipeline.unscopedRestP_none, unscopedRest0_eq]
  unfold start
  iintro ⟨⟨Hx, Ho⟩, Hlev, Hcr, -, Hh⟩
  imodintro
  isplitl
  · isplitl [Hh Hlev]
    · iapply (hand_ghost (inp m) c)
      isplitl [Hh] <;> iassumption
    isplitl [Hcr]
    · iapply (launch_credits c); iexact Hcr
    isplitl [Hx]; · iexact Hx
    iexists _; iexact Ho
  · iempintro

/-- With the scratch arrays the start is what the body takes. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iexact Hr

/-- What is kept of a device past the region: its two arrays and its barrier semaphore. -/
def kept (c : Dev nD) : sProp 𝕄 :=
  iprop((xM.view.loc (c : Thread nD τ) ↦{fullShare} inp m c) ∗ (oM.view.loc (c : Thread nD τ) ↦{fullShare} sumV (inp m) c) ∗ unscopedSems0 c)

theorem done_exit (c : Dev nD) :
    (dats m 0 c).Φ (Fin.last cfg0.N) ⊢ iprop(kept m c ∗ Pipeline.ownSems0 ownSem c ∗ Pipeline.scopedRest cfg0.spec c) := by
  rw [show (dats m 0 c).Φ (Fin.last cfg0.N) = done (inp m) c from rfl, scopedRest0_eq, ownSems_eq]
  unfold done kept
  rw [unscopedSems_eq]
  iintro ⟨Hx, Ho, Ha, Hg, Hs, Hr, HB, HX⟩
  isplitl [Hx Ho HB]
  · isplitl [Hx]; · iexact Hx
    isplitl [Ho] <;> iassumption
  isplitl [HX]; · iexact HX
  isplitl [Ha]; · iexact Ha
  isplitl [Hg]; · iexact Hg
  isplitl [Hs] <;> iassumption

/-- What the final state shows of a device. -/
def Shows (c : Dev nD) (s : MemSt nD τ sig (Elt F)) : Prop :=
  s.mem ((c : Thread nD τ).loc main_arg0) = inp m c ∧ s.mem ((c : Thread nD τ).loc main_v1) = sumV (inp m) c
    ∧ ∀ sm : SemLoc sig, sm.isScoped .tc = false → s.sem ((c : Thread nD τ), sm) = 0

theorem kept_read (c : Dev nD) (s' : Phys nD τ sig (Elt F)) :
    iprop(kept m c ∗ emp ∗ SI s') ⊢ |={Set.univ}=> iprop(⌜Shows m c s'.mem⌝ ∗ (SI s' : sProp 𝕄)) := by
  unfold kept
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ hx, Buf.eq_of_forall_mem_univ ho, hs⟩
  · iexact HSI

/-- No window waits: there is none. -/
theorem no_waits (c : Dev nD) : (levAts L lv : sProp 𝕄) ⊢ Pipeline.cellsWaits cfgs (dats m) () 0 c :=
  Pipeline.cellsWaits_intro cfgs (dats m) () 0 c fun w _ _ => w.elim0

/-- The launch's ghost state: the pipeline's own and the protocol's. -/
def ghost₀ : UU := (initOf (Pipeline.cells cfgs cellOf_inj) (Pipeline.launchToks cfgs cellOf_inj), initOf allCells allToks)

set_option maxRecDepth 8000 in
/-- From any memory with every semaphore at zero, every execution of the program on the eight devices ends, and at its
    end each device's input is what it was, its result is the sum, and every semaphore is at zero. -/
theorem run_main (ρ : Dev nD → PrngReg) :
    θ_run defs (onTc (τ := τ) (main (F := F))) ⟨m, fun _ => 0, ρ⟩ (fun r =>
      (∀ c : Dev nD, r.2.mem ((c : Thread nD τ).loc main_arg0) = inp m c ∧ r.2.mem ((c : Thread nD τ).loc main_v1) = sumV (inp m) c)
        ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := body_holds m) (hne := fun w => w.elim0) (harr := fun w => w.elim0) (hstage := fun w => w.elim0) (hshare := fun _ w => w.elim0)
    (hdistinct := winFacts0.arr_inj)
    (O₀ := owed₀) (howed₀ := fun _ => rfl) (howedN := fun _ => rfl)
    (L := L) (lv := lv) (hL := L_of_ne) (hwaits := no_waits m)
    (G := dealt (inp m)) (G' := hand (inp m)) (u₀ := ghost₀)
    (hu₀ := by
      unfold ghost₀
      iintro Hu
      ihave H := (ownU_pair _ _) $$ Hu
      icases H with ⟨HP, HX⟩
      imod (fund_cells (inp m)) $$ HX with HG
      imodintro
      isplitl [HP] <;> iassumption)
    (hglob := deal (inp m))
    (hA := fun _ w => w.elim0) (hpf := fun _ k => k.elim0)
    (X := start m) (Y := kept m) (Z := fun _ => iprop(emp))
    (hX := start_intro m ρ) (hin := before_intro m) (hout := done_exit m)
    (QY := Shows m) (hY := kept_read m)
    (hQ := fun _ h hs => ⟨fun c => ⟨(h c).2.2.1, (h c).2.2.2.1⟩, sem_eq_zero hs fun c => (h c).2.2.2.2⟩)

end Cert.Halves

end
-- ==== Proof.Value.lean ====
/-
# What the kernel and the reference compute, over the extended reals

Device `c` adds column `1024 * (c mod 2) + j` of its own input to the same column of its peer's, and the peer holds the
other of the two arrays that the reference adds. A cast between float formats changes nothing here, and the order of the
two summands does not matter. So the kernel's result on device `c` is block `c mod 2` of the reference's columns.
-/
module

public import proofs.«01_k».proof.Proof.Contents
public import proofs.«01_k».proof.Proof.Gen.ReferenceIdeal
public import Idealize.ShloMosaic.Lib.Layout
public import Idealize.ShloMosaic.Lib.IdealHost
public import Idealize.ShloMosaic.Lib.Pointwise.Reduce

@[expose] public section

noncomputable section

namespace Cert.Halves

open Idealize.ShloMosaic Idealize.ShloMosaic.TcCoe
open Cert.KernelIdeal (nD S1x4096x2048 S4096x1024)
open Cert.ReferenceIdeal (S2x4096x2048 S4096x2048 S_)

/-- The reference's result: the sum over the first axis. -/
def refV (w : S2x4096x2048.Idx → EReal) : S4096x2048.Idx → EReal :=
  Host.reduceAdd (F := Ideal) (φ := .f32) w (constant (F := Ideal) S_ .f32 0x00000000#32)
    Cert.ReferenceIdeal.Gen.facts.reducesTo_S2x4096x2048_S4096x2048_d0 Cert.ReferenceIdeal.Gen.facts.h_S_

/-- An element of the reference's result is the sum of the two arrays' elements there. -/
theorem refV_apply (w : S2x4096x2048.Idx → EReal) (j : S4096x2048.Idx) :
    refV w j = w (ix3 0 (j 0) (j 1)) + w (ix3 1 (j 0) (j 1)) := by
  unfold refV
  simp only [pointwise, Ideal.hostReduceAdd_def]
  rw [Fin.sum_univ_two]
  rw [show constant (F := Ideal) S_ .f32 0x00000000#32 (Shape.Idx.first _) = (0 : EReal) from Ideal.ofBits_zero_f32, zero_add]

/-- A device and its peer keep different halves. -/
theorem side_cases (c : Dev nD) : (side c = 0 ∧ side (peer c) = 1) ∨ (side c = 1 ∧ side (peer c) = 0) := by
  revert c; decide

/-- What a device and its peer hold between them is both arrays. -/
theorem pair_sum (c : Dev nD) (f : Fin 2 → EReal) : f (side c) + f (side (peer c)) = f 0 + f 1 := by
  rcases side_cases c with ⟨ha, hb⟩ | ⟨ha, hb⟩
  · rw [ha, hb]
  · rw [ha, hb]; exact add_comm _ _

variable (X : Dev nD → Vec Ideal S1x4096x2048 .f32) (w : S2x4096x2048.Idx → EReal)

/-- If every device holds its array of the reference's two, its result is its block of the reference's result. -/
theorem sumV_block
    (hX : ∀ c : Dev nD, X c = Layout.blockN ⟨3, ![1, 4096, 2048]⟩ ⟨3, ![2, 4096, 2048]⟩ (Layout.meshBlock [2, 2, 2] ![[2], [], []] c) w)
    (c : Dev nD) :
    sumV X c = Layout.blockN ⟨2, ![4096, 1024]⟩ ⟨2, ![4096, 2048]⟩ (Layout.meshBlock [2, 2, 2] ![[], [2]] c) (refV w) := by
  have hin : ∀ (d : Dev nD) (n : Fin 2) (i : S4096x1024.Idx),
      X d (halfIdx n i) = w (ix3 (side d) ⟨(i 0).val, (i 0).isLt⟩ ⟨1024 * n.val + (i 1).val, by have h : (i 1).val < 1024 := (i 1).isLt; have := n.isLt; omega⟩) := by
    intro d n i
    rw [hX d, Layout.blockN_apply]
    refine congrArg w (Shape.idx3_ext ?_ ?_ ?_)
    · rw [Layout.TilesN.idx_val]
      show Layout.meshLin [2, 2, 2] d.val [2] * 1 + 0 = d.val % 2
      show (d.val / 1 % 2 * 1 + 0) * 1 + 0 = d.val % 2
      omega
    · rw [Layout.TilesN.idx_val]
      show 0 * 4096 + (i 0).val = (i 0).val
      omega
    · rw [Layout.TilesN.idx_val]
      show 0 * 2048 + (1024 * n.val + (i 1).val) = 1024 * n.val + (i 1).val
      omega
  funext i
  have hsum : sumV X c i = X c (halfIdx (side c) i) + X (peer c) (halfIdx (side c) i) := by
    show X c (halfIdx (side c) i) + X (peer c) (halfIdx (side (peer (peer c))) i) = _
    rw [peer_peer]
  rw [hsum, hin, hin, Layout.blockN_apply, refV_apply]
  have h0 : ∀ h : Layout.TilesN ⟨2, ![4096, 1024]⟩ ⟨2, ![4096, 2048]⟩ (fun b => Layout.cutSize [2, 2, 2] (![[], [2]] b)),
      h.idx (Layout.meshBlock [2, 2, 2] ![[], [2]] c) i 0 = (⟨(i 0).val, (i 0).isLt⟩ : Fin 4096) := fun h => Fin.ext (by
    rw [Layout.TilesN.idx_val]
    show 0 * 4096 + (i 0).val = (i 0).val
    omega)
  have h1 : ∀ h : Layout.TilesN ⟨2, ![4096, 1024]⟩ ⟨2, ![4096, 2048]⟩ (fun b => Layout.cutSize [2, 2, 2] (![[], [2]] b)),
      h.idx (Layout.meshBlock [2, 2, 2] ![[], [2]] c) i 1
        = (⟨1024 * (side c).val + (i 1).val, by have h : (i 1).val < 1024 := (i 1).isLt; have := (side c).isLt; omega⟩ : Fin 2048) := fun h => Fin.ext (by
    rw [Layout.TilesN.idx_val]
    show (c.val / 1 % 2 * 1 + 0) * 1024 + (i 1).val = 1024 * (c.val % 2) + (i 1).val
    omega)
  rw [h0, h1]
  exact pair_sum c fun n => w (ix3 n _ _)

end Cert.Halves

end
-- ==== Proof.lean ====
/-
# The proof of the claim

The kernel runs to the end on eight devices, leaves its input as it was and every semaphore at zero, and its result on
each device is that device's block of the reference's sum, over the extended reals. `Cert.Halves.run_main` is the run,
over any float values, `Cert.Halves.sumV_block` the equation of the results.
-/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value

@[expose] public section

noncomputable section

namespace Cert.Proof

open Idealize.ShloMosaic Idealize.SL.Sem

/-- The kernel over the machine's floats: the run, with the result dropped. -/
theorem frame_kernel : Cert.quiescent_Kernel := fun m ρ _ =>
  (θ_run Cert.KernelIdeal.defs _ _).mono (fun _ h => ⟨fun c => (h.1 c).1, h.2⟩) (Cert.Halves.run_main (F := Bits) m ρ)

/-- The kernel over the extended reals, likewise. -/
theorem frame_ideal : Cert.quiescent_KernelIdeal := fun m ρ _ =>
  (θ_run Cert.KernelIdeal.defs _ _).mono (fun _ h => ⟨fun c => (h.1 c).1, h.2⟩) (Cert.Halves.run_main (F := Ideal) m ρ)

/-- The reference runs to the end and leaves its input as it was; it has no semaphore. -/
theorem frame_reference : Cert.quiescent_ReferenceIdeal := fun m ρ _ =>
  (θ_run Cert.ReferenceIdeal.defs _ _).mono (fun _ h => ⟨fun c => (h c).2, by
    funext g
    rcases g with ⟨_, s | s⟩
    · exact s.elim0
    · exact s.elim0⟩) (Cert.ReferenceIdeal.Value.run (F := Ideal) m ρ)

/-- Each device's result is its block of the reference's. -/
theorem value : Cert.algebraic_KernelIdeal_ReferenceIdeal := fun m ρ m' ρ' _ hX =>
  ⟨Cert.Halves.refV (m' ((Dev.tc (0 : Dev Cert.ReferenceIdeal.nD) : Thread Cert.ReferenceIdeal.nD Cert.ReferenceIdeal.τ).loc Cert.ReferenceIdeal.main_arg0)),
    (θ_run Cert.KernelIdeal.defs _ _).mono (fun _ h c => ⟨(h.1 c).2.trans (Cert.Halves.sumV_block _ _ hX c), (h.1 c).1⟩)
      (Cert.Halves.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
